-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lens [hPre_lens : Cert.Pre_lens.Facts] (m : (ℓ : Loc Cert.KernelIdeal.nD Cert.KernelIdeal.τ Cert.KernelIdeal.sig) → Buf (Elt Ideal) ℓ) : Prop :=
  ∀ c : Dev Cert.KernelIdeal.nD,
    (Cert.Pre_lens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens [hPre_lens : Cert.Pre_lens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_lens [hKernelIdeal : Cert.KernelIdeal.Facts] [hPre_lens : Cert.Pre_lens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_lens [hReferenceIdeal : Cert.ReferenceIdeal.Facts] [hPre_lens : Cert.Pre_lens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_lens [hKernelIdeal : Cert.KernelIdeal.Facts] [hReferenceIdeal : Cert.ReferenceIdeal.Facts] [hPre_lens : Cert.Pre_lens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lens : Cert.Pre_lens.Facts),
    quiescent_Kernel (hKernel := hKernel)
    ∧ quiescent_KernelIdeal (hKernelIdeal := hKernelIdeal)
    ∧ quiescent_KernelIdeal_pre_lens (hKernelIdeal := hKernelIdeal) (hPre_lens := hPre_lens)
    ∧ quiescent_ReferenceIdeal (hReferenceIdeal := hReferenceIdeal)
    ∧ quiescent_ReferenceIdeal_pre_lens (hReferenceIdeal := hReferenceIdeal) (hPre_lens := hPre_lens)
    ∧ preserves_Kernel_KernelIdeal
    ∧ algebraic_KernelIdeal_ReferenceIdeal_pre_lens (hKernelIdeal := hKernelIdeal) (hReferenceIdeal := hReferenceIdeal) (hPre_lens := hPre_lens)
-- ==== Pre_lens.lean ====
abbrev S16x2048x128 : Shape := ⟨3, ![16, 2048, 128]⟩
abbrev S128x128x3 : Shape := ⟨3, ![128, 128, 3]⟩
abbrev S128 : Shape := ⟨1, ![128]⟩
abbrev S16x256 : Shape := ⟨2, ![16, 256]⟩
abbrev S_ : Shape := ⟨0, ![]⟩

class Facts : Prop where
  bcast_S_S16x256 : S_.BroadcastsInDim S16x256 (![] : Fin 0 → Fin S16x256.rank)
  reducesTo_S16x256_S_d0_1 : S16x256.ReducesTo [0, 1] S_
  h_S_ : 0 < S_.numel

variable [Facts]

def fn {F : FTy → Type} [FloatOps F] (main_arg0 : FVec F S16x2048x128 .f32) (main_arg1 : FVec F S128x128x3 .f32) (main_arg2 : FVec F S128 .f32) (main_arg3 : IVec S16x256 32) : IVec S_ 1 :=
  let main_c : IVec S_ 32 := constantI S_ 32 0#32
  let main_v0 : IVec S16x256 32 := broadcastInDim S16x256 ![] bcast_S_S16x256 main_c
  let main_v1 : IVec S16x256 1 := cmpi .sge main_arg3 main_v0
  let main_c_0 : IVec S_ 32 := constantI S_ 32 8#32
  let main_v2 : IVec S16x256 32 := broadcastInDim S16x256 ![] bcast_S_S16x256 main_c_0
  let main_v3 : IVec S16x256 1 := cmpi .slt main_arg3 main_v2
  let main_v4 : IVec S16x256 1 := andi main_v1 main_v3
  let main_c_1 : IVec S_ 1 := constantI S_ 1 1#1
  let main_v5 : IVec S_ 1 := (fun x v => Host.reduce IntOp.andi x v reducesTo_S16x256_S_d0_1 h_S_) main_v4 main_c_1
  main_v5
-- ==== Kernel.lean ====
abbrev S16x2048x128 : Shape := ⟨3, ![16, 2048, 128]⟩
abbrev S128x128x3 : Shape := ⟨3, ![128, 128, 3]⟩
abbrev S128 : Shape := ⟨1, ![128]⟩
abbrev S16x256 : Shape := ⟨2, ![16, 256]⟩
abbrev S16x1x256 : Shape := ⟨3, ![16, 1, 256]⟩
abbrev S3x128x128 : Shape := ⟨3, ![3, 128, 128]⟩
abbrev S1x128 : Shape := ⟨2, ![1, 128]⟩
abbrev S_ : Shape := ⟨0, ![]⟩
abbrev S256x256 : Shape := ⟨2, ![256, 256]⟩
abbrev S1x1x256 : Shape := ⟨3, ![1, 1, 256]⟩
abbrev S1x2048x128 : Shape := ⟨3, ![1, 2048, 128]⟩
abbrev S2048x128 : Shape := ⟨2, ![2048, 128]⟩
abbrev S1x256 : Shape := ⟨2, ![1, 256]⟩
abbrev S1x384 : Shape := ⟨2, ![1, 384]⟩
abbrev S2048x384 : Shape := ⟨2, ![2048, 384]⟩
abbrev S2048 : Shape := ⟨1, ![2048]⟩
abbrev S2048x1 : Shape := ⟨2, ![2048, 1]⟩
abbrev S1x1x384 : Shape := ⟨3, ![1, 1, 384]⟩
abbrev S1 : Shape := ⟨1, ![1]⟩
abbrev S1x1x1 : Shape := ⟨3, ![1, 1, 1]⟩
abbrev S2047x128 : Shape := ⟨2, ![2047, 128]⟩
abbrev S1x128x128 : Shape := ⟨3, ![1, 128, 128]⟩
abbrev S128x128 : Shape := ⟨2, ![128, 128]⟩

abbrev nBuf : Space → Nat
  | .hbm => 19
  | .vmem => 9
  | .smem => 0
  | _ => 0

abbrev bufTy : (tb : Table) → Fin (tcTables nBuf tb) → BufTy
  | .hbm, ⟨0, _⟩ => ⟨S16x2048x128, .f32⟩
  | .hbm, ⟨1, _⟩ => ⟨S128x128x3, .f32⟩
  | .hbm, ⟨2, _⟩ => ⟨S128, .f32⟩
  | .hbm, ⟨3, _⟩ => ⟨S16x256, .i32⟩
  | .hbm, ⟨4, _⟩ => ⟨S16x1x256, .i32⟩
  | .hbm, ⟨5, _⟩ => ⟨S3x128x128, .f32⟩
  | .hbm, ⟨6, _⟩ => ⟨S1x128, .f32⟩
  | .hbm, ⟨7, _⟩ => ⟨S_, .f32⟩
  | .hbm, ⟨8, _⟩ => ⟨S256x256, .f32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S16x2048x128, .f32⟩
  | .local _ .vmem, ⟨0, _⟩ => ⟨S1x1x256, .i32⟩
  | .local _ .vmem, ⟨1, _⟩ => ⟨S1x1x256, .i32⟩
  | .local _ .vmem, ⟨2, _⟩ => ⟨S1x2048x128, .f32⟩
  | .local _ .vmem, ⟨3, _⟩ => ⟨S1x2048x128, .f32⟩
  | .local _ .vmem, ⟨4, _⟩ => ⟨S3x128x128, .f32⟩
  | .local _ .vmem, ⟨5, _⟩ => ⟨S1x128, .f32⟩
  | .local _ .vmem, ⟨6, _⟩ => ⟨S256x256, .f32⟩
  | .local _ .vmem, ⟨7, _⟩ => ⟨S1x2048x128, .f32⟩
  | .local _ .vmem, ⟨8, _⟩ => ⟨S1x2048x128, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x2048x128 : Shape := ⟨3, ![16, 2048, 128]⟩
abbrev S128x128x3 : Shape := ⟨3, ![128, 128, 3]⟩
abbrev S128 : Shape := ⟨1, ![128]⟩
abbrev S16x256 : Shape := ⟨2, ![16, 256]⟩
abbrev S_ : Shape := ⟨0, ![]⟩
abbrev S16x1 : Shape := ⟨2, ![16, 1]⟩
abbrev S16x255 : Shape := ⟨2, ![16, 255]⟩
abbrev S8 : Shape := ⟨1, ![8]⟩
abbrev S16x256x1 : Shape := ⟨3, ![16, 256, 1]⟩
abbrev S1x1x8 : Shape := ⟨3, ![1, 1, 8]⟩
abbrev S16x256x8 : Shape := ⟨3, ![16, 256, 8]⟩
abbrev S16 : Shape := ⟨1, ![16]⟩
abbrev S16x1x1 : Shape := ⟨3, ![16, 1, 1]⟩
abbrev S16x256x8x1 : Shape := ⟨4, ![16, 256, 8, 1]⟩
abbrev S16x256x8x2 : Shape := ⟨4, ![16, 256, 8, 2]⟩
abbrev S16x256x8x128 : Shape := ⟨4, ![16, 256, 8, 128]⟩
abbrev S4096x8x128 : Shape := ⟨3, ![4096, 8, 128]⟩
abbrev S4096x10x128 : Shape := ⟨3, ![4096, 10, 128]⟩
abbrev S128x128x1 : Shape := ⟨3, ![128, 128, 1]⟩
abbrev S128x128 : Shape := ⟨2, ![128, 128]⟩
abbrev S1x1x128 : Shape := ⟨3, ![1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S128x128x3, .f32⟩
  | .hbm, ⟨2, _⟩ => ⟨S128, .f32⟩
  | .hbm, ⟨3, _⟩ => ⟨S16x256, .i32⟩
  | .hbm, ⟨4, _⟩ => ⟨S_, .i32⟩
  | .hbm, ⟨5, _⟩ => ⟨S16x1, .i32⟩
  | .hbm, ⟨6, _⟩ => ⟨S_, .i32⟩
  | .hbm, ⟨7, _⟩ => ⟨S_, .i32⟩
  | .hbm, ⟨8, _⟩ => ⟨S16x256, .i32⟩
  | .hbm, ⟨9, _⟩ => ⟨S16x255, .i32⟩
  | .hbm, ⟨10, _⟩ => ⟨S16x256, .i32⟩
  | .hbm, ⟨11, _⟩ => ⟨S_, .i32⟩
  | .hbm, ⟨12, _⟩ => ⟨S16x256, .i32⟩
  | .hbm, ⟨13, _⟩ => ⟨S16x256, .i32⟩
  | .hbm, ⟨14, _⟩ => ⟨S8, .i32⟩
  | .hbm, ⟨15, _⟩ => ⟨S16x256x1, .i32⟩
  | .hbm, ⟨16, _⟩ => ⟨S1x1x8, .i32⟩
  | .hbm, ⟨17, _⟩ => ⟨S16x256x8, .i32⟩
  | .hbm, ⟨18, _⟩ => ⟨S16x256x8, .i32⟩
  | .hbm, ⟨19, _⟩ => ⟨S16x256x8, .i32⟩
  | .hbm, ⟨20, _⟩ => ⟨S1x1x8, .i32⟩
  | .hbm, ⟨21, _⟩ => ⟨S16x256x1, .i32⟩
  | .hbm, ⟨22, _⟩ => ⟨S16x256x8, .i32⟩
  | .hbm, ⟨23, _⟩ => ⟨S16x256x8, .i32⟩
  | .hbm, ⟨24, _⟩ => ⟨S16x256x8, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S16x256x8, .i32⟩
  | .hbm, ⟨29, _⟩ => ⟨S16x256x8, .i32⟩
  | .hbm, ⟨30, _⟩ => ⟨S_, .i32⟩
  | .hbm, ⟨31, _⟩ => ⟨S16x256x8, .i32⟩
  | .hbm, ⟨32, _⟩ => ⟨S16x256x8, .i32⟩
  | .hbm, ⟨33, _⟩ => ⟨S16, .i32⟩
  | .hbm, ⟨34, _⟩ => ⟨S16x1x1, .i32⟩
  | .hbm, ⟨35, _⟩ => ⟨S_, .i32⟩
  | .hbm, ⟨36, _⟩ => ⟨S16x1x1, .i32⟩
  | .hbm, ⟨37, _⟩ => ⟨S16x1x1, .i1⟩
  | .hbm, ⟨38, _⟩ => ⟨S_, .i32⟩
  | .hbm, ⟨39, _⟩ => ⟨S16x1x1, .i32⟩
  | .hbm, ⟨40, _⟩ => ⟨S16x1x1, .i32⟩
  | .hbm, ⟨41, _⟩ => ⟨S16x1x1, .i32⟩
  | .hbm, ⟨42, _⟩ => ⟨S_, .i32⟩
  | .hbm, ⟨43, _⟩ => ⟨S16x256x8, .i32⟩
  | .hbm, ⟨44, _⟩ => ⟨S16x256x8, .i1⟩
  | .hbm, ⟨45, _⟩ => ⟨S_, .i32⟩
  | .hbm, ⟨46, _⟩ => ⟨S16x256x8, .i32⟩
  | .hbm, ⟨47, _⟩ => ⟨S16x256x8, .i32⟩
  | .hbm, ⟨48, _⟩ => ⟨S16x256x8, .i32⟩
  | .hbm, ⟨49, _⟩ => ⟨S16x256x8, .i32⟩
  | .hbm, ⟨50, _⟩ => ⟨S16x256x8x1, .i32⟩
  | .hbm, ⟨51, _⟩ => ⟨S16x256x8x1, .i32⟩
  | .hbm, ⟨52, _⟩ => ⟨S16x256x8x2, .i32⟩
  | .hbm, ⟨53, _⟩ => ⟨S16x256x8x128, .f32⟩
  | .hbm, ⟨54, _⟩ => ⟨S16x256x8x1, .i1⟩
  | .hbm, ⟨55, _⟩ => ⟨S16x256x8x1, .f32⟩
  | .hbm, ⟨56, _⟩ => ⟨S16x256x8x128, .f32⟩
  | .hbm, ⟨57, _⟩ => ⟨S16x256x8x128, .f32⟩
  | .hbm, ⟨58, _⟩ => ⟨S4096x8x128, .f32⟩
  | .hbm, ⟨59, _⟩ => ⟨S_, .i32⟩
  | .hbm, ⟨60, _⟩ => ⟨S_, .f32⟩
  | .hbm, ⟨61, _⟩ => ⟨S4096x10x128, .f32⟩
  | .hbm, ⟨62, _⟩ => ⟨S4096x8x128, .f32⟩
  | .hbm, ⟨63, _⟩ => ⟨S128x128x1, .f32⟩
  | .hbm, ⟨64, _⟩ => ⟨S128x128, .f32⟩
  | .hbm, ⟨65, _⟩ => ⟨S4096x8x128, .f32⟩
  | .hbm, ⟨66, _⟩ => ⟨S4096x8x128, .f32⟩
  | .hbm, ⟨67, _⟩ => ⟨S128x128x1, .f32⟩
  | .hbm, ⟨68, _⟩ => ⟨S128x128, .f32⟩
  | .hbm, ⟨69, _⟩ => ⟨S4096x8x128, .f32⟩
  | .hbm, ⟨70, _⟩ => ⟨S4096x8x128, .f32⟩
  | .hbm, ⟨71, _⟩ => ⟨S4096x8x128, .f32⟩
  | .hbm, ⟨72, _⟩ => ⟨S128x128x1, .f32⟩
  | .hbm, ⟨73, _⟩ => ⟨S128x128, .f32⟩
  | .hbm, ⟨74, _⟩ => ⟨S4096x8x128, .f32⟩
  | .hbm, ⟨75, _⟩ => ⟨S4096x8x128, .f32⟩
  | .hbm, ⟨76, _⟩ => ⟨S1x1x128, .f32⟩
  | .hbm, ⟨77, _⟩ => ⟨S4096x8x128, .f32⟩
  | .hbm, ⟨78, _⟩ => ⟨S4096x8x128, .f32⟩
  | .hbm, ⟨79, _⟩ => ⟨S_, .f32⟩
  | .hbm, ⟨80, _⟩ => ⟨S4096x8x128, .f32⟩
  | .hbm, ⟨81, _⟩ => ⟨S4096x8x128, .f32⟩
  | .hbm, ⟨82, _⟩ => ⟨S16x256x8x128, .f32⟩
  | .hbm, ⟨83, _⟩ => ⟨S_, .f32⟩
  | .hbm, ⟨84, _⟩ => ⟨S16x2048x128, .f32⟩
  | .hbm, ⟨85, _⟩ => ⟨S16x256x8x1, .i1⟩
  | .hbm, ⟨86, _⟩ => ⟨S16x256x8x1, .f32⟩
  | .hbm, ⟨87, _⟩ => ⟨S16x256x8x128, .f32⟩
  | .hbm, ⟨88, _⟩ => ⟨S16x256x8x128, .f32⟩
  | .hbm, ⟨89, _⟩ => ⟨S_, .i32⟩
  | .hbm, ⟨90, _⟩ => ⟨S16x1x1, .i32⟩
  | .hbm, ⟨91, _⟩ => ⟨S16x1x1, .i1⟩
  | .hbm, ⟨92, _⟩ => ⟨S_, .i32⟩
  | .hbm, ⟨93, _⟩ => ⟨S16x1x1, .i32⟩
  | .hbm, ⟨94, _⟩ => ⟨S16x1x1, .i32⟩
  | .hbm, ⟨95, _⟩ => ⟨S16x1x1, .i32⟩
  | .hbm, ⟨96, _⟩ => ⟨S_, .i32⟩
  | .hbm, ⟨97, _⟩ => ⟨S16x256x8, .i32⟩
  | .hbm, ⟨98, _⟩ => ⟨S16x256x8, .i1⟩
  | .hbm, ⟨99, _⟩ => ⟨S_, .i32⟩
  | .hbm, ⟨100, _⟩ => ⟨S16x256x8, .i32⟩
  | .hbm, ⟨101, _⟩ => ⟨S16x256x8, .i32⟩
  | .hbm, ⟨102, _⟩ => ⟨S16x256x8, .i32⟩
  | .hbm, ⟨103, _⟩ => ⟨S16x256x8, .i32⟩
  | .hbm, ⟨104, _⟩ => ⟨S16x256x8x1, .i32⟩
  | .hbm, ⟨105, _⟩ => ⟨S16x256x8x1, .i32⟩
  | .hbm, ⟨106, _⟩ => ⟨S16x256x8x2, .i32⟩
  | .hbm, ⟨107, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_call0_call0_c : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_call2_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call3_cst : Ref sig .tc := ⟨.hbm, 79, rfl⟩
abbrev main_call3_v0 : Ref sig .tc := ⟨.hbm, 80, rfl⟩
abbrev main_v58 : Ref sig .tc := ⟨.hbm, 81, rfl⟩
abbrev main_v59 : Ref sig .tc := ⟨.hbm, 82, rfl⟩
abbrev main_cst : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_8 : Ref sig .tc := ⟨.hbm, 89, rfl⟩
abbrev main_v65 : Ref sig .tc := ⟨.hbm, 90, rfl⟩
abbrev main_v66 : Ref sig .tc := ⟨.hbm, 91, rfl⟩
abbrev main_c_9 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_10 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Proof.KernelRead.lean ====
/- The kernel body's named values, each read at one index. -/
module

public import proofs.«01_k».proof.Proof.Gen.KernelIdeal.Value
public import Idealize.ShloMosaic.Lib.Pointwise

@[expose] public section

set_option maxRecDepth 16384

noncomputable section

namespace Cert.KernelIdeal.Block

open Idealize.ShloMosaic Cert.KernelIdeal Cert.KernelIdeal.Gen

/-- The chunk ends: the lengths times the triangle, converted to words, and zeros after them. -/
theorem ends_read (v2 : Vec Ideal S1x1x256 .i32) (v5 : Vec Ideal S256x256 .f32) (e : Fin 384) :
    k0_pay3 v2 v5 (ix2 0 e) = if h : e.val < 256 then
      FloatOps.fptosi (F := Ideal) (φ := .f32) 32
        (∑ x : Fin 256, (FloatOps.sitofp .f32 (v2 (ix3 0 0 x)) : Ideal .f32) * v5 (ix2 x ⟨e.val, h⟩))
      else 0#32 := by
  pointwise [k0_pay3]

/-- The boundary mask: one minus the largest of the comparisons with the chunk ends. -/
theorem mask_read (v2 : Vec Ideal S1x1x256 .i32) (v5 : Vec Ideal S256x256 .f32) (s : Fin 2048) :
    k0_pay4 v2 v5 (ix2 s 0) = (1 : EReal) - Finset.univ.fold max (Ideal.ofBits FTy.f32 4286578688#32)
      (fun x : Fin 384 => (FloatOps.sitofp (F := Ideal) FTy.f32 (BitVec.setWidth 32
        (IntOp.cmpi .eq (k0_pay3 v2 v5 (ix2 0 x)) (BitVec.ofNat 32 s.val))) : EReal)) := by
  pointwise [k0_pay4]

/-- The total: the largest chunk end. -/
theorem total_read (v2 : Vec Ideal S1x1x256 .i32) (v5 : Vec Ideal S256x256 .f32) :
    extractAt ![0, 0, 0] (k0_pay5 v2 v5) inpos_S1x1x1_p0_0_0 = Finset.univ.fold IntOp.maxsi (2147483648#32)
      (fun x : Fin 1 × Fin 384 => k0_pay3 v2 v5 (ix2 0 x.2)) := by
  pointwise [k0_pay5]

/-- The right taps: the masked features one row up, the last row once more. -/
theorem right_read (v0 : Vec Ideal S1x2048x128 .f32) (v2 : Vec Ideal S1x1x256 .i32) (v5 : Vec Ideal S256x256 .f32)
    (s : Fin 2048) (d : Fin 128) (h : s.val < 2047) :
    k0_pay6 v0 v2 v5 (ix2 s d) = (v0 (ix3 0 ⟨1 + s.val, by omega⟩ d) : EReal) * k0_pay4 v2 v5 (ix2 ⟨1 + s.val, by omega⟩ 0) := by
  pointwise [k0_pay6, k0_pay2]
  rw [dif_pos h]

/-- The left taps times their weights: the masked features one row down, the first row once more. -/
theorem left_read (v0 : Vec Ideal S1x2048x128 .f32) (v2 : Vec Ideal S1x1x256 .i32) (v5 : Vec Ideal S256x256 .f32)
    (v35 : Vec Ideal S1x128x128 .f32) (s : Fin 2048) (o : Fin 128) :
    k0_pay7 v0 v2 v5 v35 (ix2 s o) = ∑ x : Fin 128,
      (if h : s.val < 1 then (v0 (ix3 0 s x) : EReal) else v0 (ix3 0 ⟨s.val - 1, by omega⟩ x))
        * k0_pay4 v2 v5 (ix2 s 0) * v35 (ix3 0 x o) := by
  pointwise [k0_pay7, k0_pay2]

/-- The result: the three products and the bias added, clamped at zero, kept below the total. -/
theorem out_read (v0 : Vec Ideal S1x2048x128 .f32) (v24 : BitVec 32) (v34 v37 : FVec Ideal S2048x128 .f32)
    (v38 v42 : Vec Ideal S1x128x128 .f32) (v46 : Vec Ideal S1x128 .f32) (s : Fin 2048) (o : Fin 128) :
    k0_pay1 (k0_pay2 v0) v24 v34 v37 v38 v42 v46 (ix3 0 s o) =
      Scalar.select (IntOp.cmpi .slt (BitVec.ofNat 32 s.val) v24)
        (max ((v37 (ix2 s o) : EReal) + ∑ x : Fin 128, (v0 (ix3 0 s x) : EReal) * v38 (ix3 0 x o)
          + ∑ x : Fin 128, (v34 (ix2 s x) : EReal) * v42 (ix3 0 x o) + v46 (ix2 0 o)) 0) (0 : EReal) := by
  pointwise [k0_pay1, k0_pay2]

end Cert.KernelIdeal.Block
-- ==== Proof.Prefix.lean ====
/- Prefix sums of chunk lengths, over the natural numbers: a position below the total lies in exactly one
   chunk, and it is some chunk's start exactly when it is the start of the chunk it lies in. -/
module

public import Mathlib.Algebra.BigOperators.Intervals
public import Mathlib.Algebra.Order.BigOperators.Group.Finset

@[expose] public section

namespace Cert.Prefix

open Finset

/-- The number of positions taken by the first `k` chunks. -/
def pre (a : ℕ → ℕ) (k : ℕ) : ℕ := ∑ j ∈ range k, a j

variable {a : ℕ → ℕ}

theorem pre_zero : pre a 0 = 0 := by simp [pre]

theorem pre_succ (k : ℕ) : pre a (k + 1) = pre a k + a k := by simp [pre, sum_range_succ]

/-- Prefix sums grow with the number of chunks. -/
theorem pre_mono {j k : ℕ} (h : j ≤ k) : pre a j ≤ pre a k :=
  sum_le_sum_of_subset (by simpa using h)

/-- Chunks of at most seven positions: `k` of them take at most `7 * k`. -/
theorem pre_le (ha : ∀ j, a j ≤ 7) (k : ℕ) : pre a k ≤ 7 * k := by
  induction k with
  | zero => simp [pre_zero]
  | succ k ih => have := ha k; rw [pre_succ]; omega

/-- A position below the total of `n` chunks lies in one of them. -/
theorem exists_chunk {n s : ℕ} (h : s < pre a n) : ∃ c, c < n ∧ pre a c ≤ s ∧ s < pre a (c + 1) := by
  induction n with
  | zero => simp [pre_zero] at h
  | succ n ih =>
    by_cases hn : s < pre a n
    · obtain ⟨c, hc, h'⟩ := ih hn; exact ⟨c, by omega, h'⟩
    · exact ⟨n, by omega, by omega, h⟩

/-- It lies in one only. -/
theorem chunk_unique {c d s : ℕ} (hc : pre a c ≤ s) (hc' : s < pre a (c + 1)) (hd : pre a d ≤ s)
    (hd' : s < pre a (d + 1)) : c = d := by
  by_contra hne
  rcases Nat.lt_or_gt_of_ne hne with h | h
  · have := pre_mono (a := a) (show c + 1 ≤ d by omega); omega
  · have := pre_mono (a := a) (show d + 1 ≤ c by omega); omega

/-- Position `s` is the start of one of the first `n` chunks, or the end of the last. -/
def Start (a : ℕ → ℕ) (n s : ℕ) : Prop := ∃ k, k ≤ n ∧ pre a k = s

/-- Of the positions of chunk `c`, the first alone is a start. -/
theorem start_iff {n c s : ℕ} (hn : c < n) (hc : pre a c ≤ s) (hc' : s < pre a (c + 1)) :
    Start a n s ↔ s = pre a c := by
  constructor
  · rintro ⟨k, -, rfl⟩
    by_cases h : k ≤ c
    · have := pre_mono (a := a) h; omega
    · have := pre_mono (a := a) (show c + 1 ≤ k by omega); omega
  · exact fun h => ⟨c, by omega, h.symm⟩

/-- The position after a position of chunk `c` is a start exactly when it is the end of chunk `c`. -/
theorem start_succ_iff {n c s : ℕ} (hn : c < n) (hc : pre a c ≤ s) (hc' : s < pre a (c + 1)) :
    Start a n (s + 1) ↔ s + 1 = pre a (c + 1) := by
  constructor
  · rintro ⟨k, -, hk⟩
    by_cases h : k ≤ c
    · have := pre_mono (a := a) h; omega
    · have := pre_mono (a := a) (show c + 1 ≤ k by omega); omega
  · exact fun h => ⟨c + 1, by omega, h.symm⟩

/-- A start is position 0 or the end of one of the chunks. -/
theorem start_iff_end {n s : ℕ} : Start a n s ↔ s = 0 ∨ ∃ e, e < n ∧ pre a (e + 1) = s := by
  constructor
  · rintro ⟨k, hk, rfl⟩
    cases k with
    | zero => exact .inl pre_zero
    | succ k => exact .inr ⟨k, by omega, rfl⟩
  · rintro (rfl | ⟨e, he, rfl⟩)
    · exact ⟨0, by omega, pre_zero⟩
    · exact ⟨e + 1, by omega, rfl⟩

end Cert.Prefix
-- ==== Proof.Spec.lean ====
/- The value both programs compute at one position of one batch row: the three-tap convolution inside the chunk
   that the position lies in, nothing past the chunks' total. -/
module

public import proofs.«01_k».proof.Proof.Prefix
public import Mathlib.Data.EReal.Operations

@[expose] public section

noncomputable section

namespace Cert.Spec

open Cert.Prefix
open scoped Classical

/-- The left neighbour's features: zero at the first position of a chunk. -/
def left (a : ℕ → ℕ) (X : ℕ → Fin 128 → EReal) (s : ℕ) (d : Fin 128) : EReal :=
  if Start a 256 s then 0 else X (s - 1) d

/-- The right neighbour's features: zero at the last position of a chunk. -/
def right (a : ℕ → ℕ) (X : ℕ → Fin 128 → EReal) (s : ℕ) (d : Fin 128) : EReal :=
  if Start a 256 (s + 1) then 0 else X (s + 1) d

/-- The convolution at position `s`, output channel `o`, clamped at zero: chunk lengths `a`, features `X`,
    weights `W0`, `W1`, `W2` of the three taps, bias `β`. Zero at positions past the chunks. -/
def conv (a : ℕ → ℕ) (X : ℕ → Fin 128 → EReal) (W0 W1 W2 : Fin 128 → Fin 128 → EReal) (β : Fin 128 → EReal)
    (s : ℕ) (o : Fin 128) : EReal :=
  if s < pre a 256 then
    max (∑ d, left a X s d * W0 d o + ∑ d, X s d * W1 d o + ∑ d, right a X s d * W2 d o + β o) 0
  else 0

end Cert.Spec
-- ==== Proof.Numbers.lean ====
/- Small facts about extended reals and words that both programs' readings use. -/
module

public import proofs.«01_k».proof.Proof.Spec
public import Idealize.ShloMosaic.Lib.StableHlo.Predicate
public import Idealize.ShloMosaic.Lib.SortNet.Extract
public import Idealize.ShloMosaic.Lib.Pointwise

@[expose] public section

noncomputable section

namespace Cert.Numbers

open Idealize.ShloMosaic Cert.Prefix
open scoped Classical

/-- A small natural number as a signed word, converted to a float, is that number. -/
theorem sitofp_nat (n : ℕ) (h : n < 2 ^ 31) : (FloatOps.sitofp FTy.f32 (BitVec.ofNat 32 n) : Ideal .f32) = ((n : ℕ) : EReal) := by
  show (((BitVec.ofNat 32 n).toInt : ℝ) : EReal) = _
  rw [StableHlo.Predicate.toInt_ofNat_small n h]; norm_cast

/-- A small natural number as a float, converted to a signed word, is that number's word. -/
theorem fptosi_nat (n : ℕ) (h : n < 2 ^ 31) : FloatOps.fptosi (F := Ideal) (φ := .f32) 32 ((n : ℕ) : EReal) = BitVec.ofNat 32 n := by
  show Ideal.fptosi 32 _ = _
  have e : ((n : ℕ) : EReal) = ((n : ℝ) : EReal) := by norm_cast
  rw [e, Ideal.fptosi, Ideal.toIntClamped_coe, if_pos (by positivity), Int.floor_natCast]
  have : max (-((2 ^ (32 - 1) : ℕ) : ℤ)) (min (((2 ^ (32 - 1) : ℕ) : ℤ) - 1) (n : ℤ)) = n := by omega
  rw [this]; simp

/-- A comparison bit widened and converted to a float is one or zero. -/
theorem sitofp_bit (p : Prop) [Decidable p] :
    (FloatOps.sitofp FTy.f32 (BitVec.setWidth 32 (BitVec.ofBool (decide p))) : Ideal .f32) = if p then (1 : EReal) else 0 := by
  show (((BitVec.setWidth 32 (BitVec.ofBool (decide p))).toInt : ℝ) : EReal) = _
  by_cases h : p <;> simp [h]

/-- A bit converted to a float, unsigned, is one or zero. -/
theorem uitofp_bit (p : Prop) [Decidable p] :
    (FloatOps.uitofp FTy.f32 (BitVec.ofBool (decide p)) : Ideal .f32) = if p then (1 : EReal) else 0 := by
  show (((BitVec.ofBool (decide p)).toNat : ℝ) : EReal) = _
  by_cases h : p <;> simp [h]

/-- The largest of zeros and ones is one exactly when a one is among them. -/
theorem fold_max_bit {ι : Type} [Fintype ι] [Nonempty ι] (p : ι → Prop) [DecidablePred p] :
    (Finset.univ.fold max (Ideal.ofBits FTy.f32 4286578688#32) (fun x => if p x then (1 : EReal) else 0))
      = if ∃ x, p x then (1 : EReal) else 0 := by
  have hb : (Ideal.ofBits FTy.f32 4286578688#32 : EReal) = ⊥ := by simp [Ideal.ofBits, Ideal.ieee]
  rw [hb]
  show Finset.univ.sup (fun x => if p x then (1 : EReal) else 0) = _
  by_cases h : ∃ x, p x
  · obtain ⟨x, hx⟩ := h
    rw [if_pos ⟨x, hx⟩]
    apply le_antisymm
    · exact Finset.sup_le fun y _ => by split <;> simp
    · calc (1 : EReal) = if p x then 1 else 0 := (if_pos hx).symm
        _ ≤ _ := Finset.le_sup (f := fun x => if p x then (1 : EReal) else 0) (Finset.mem_univ x)
  · have hp : ∀ x, ¬ p x := fun x hx => h ⟨x, hx⟩
    rw [if_neg h]
    simp only [hp, if_false]
    exact Finset.sup_const Finset.univ_nonempty 0

/-- The signed maximum of small natural numbers' words, `M` the largest of them. -/
theorem fold_maxsi_nat {ι : Type} [Fintype ι] (f : ι → ℕ) (M : ℕ) (hM : M < 2 ^ 31) (hf : ∀ x, f x ≤ M) (y : ι) (hy : f y = M) :
    Finset.univ.fold IntOp.maxsi (2147483648#32) (fun x => BitVec.ofNat 32 (f x)) = BitVec.ofNat 32 M := by
  obtain ⟨-, hge, hmem⟩ := SortNet.fold_maxsi_spec (fun x => BitVec.ofNat 32 (f x)) Finset.univ (2147483648#32)
  have hy' := hge y (Finset.mem_univ y)
  rw [hy, StableHlo.Predicate.toInt_ofNat_small M hM] at hy'
  rcases hmem with h | ⟨x, -, h⟩
  · rw [h] at hy'
    have : (2147483648#32 : BitVec 32).toInt = -2147483648 := by decide
    omega
  · rw [h] at hy' ⊢
    have hx := hf x
    rw [StableHlo.Predicate.toInt_ofNat_small (f x) (by omega)] at hy'
    rw [show f x = M by omega]

/-- One minus one. -/
theorem one_sub_one : (1 : EReal) - 1 = 0 := by
  rw [← EReal.coe_one, ← EReal.coe_sub]; simp

/-- The chunk ends as a sum over all chunks, each counted where it is not past the one asked about. -/
theorem sum_triangle (a : ℕ → ℕ) (e : ℕ) (he : e < 256) :
    ∑ x : Fin 256, ((a x.val : ℕ) : EReal) * (if x.val ≤ e then (1 : EReal) else 0) = ((pre a (e + 1) : ℕ) : EReal) := by
  have h1 : ∀ x : Fin 256, ((a x.val : ℕ) : EReal) * (if x.val ≤ e then (1 : EReal) else 0)
      = (((if x.val ≤ e then a x.val else 0 : ℕ)) : EReal) := by
    intro x; split <;> simp
  simp only [h1]
  rw [← Nat.cast_sum, Fin.sum_univ_eq_sum_range (fun x => if x ≤ e then a x else 0) 256, pre, ← Finset.sum_filter]
  congr 2
  ext x; simp; omega

end Cert.Numbers
-- ==== Proof.KernelBlock.lean ====
/- What the kernel body stores at one position of one block: the convolution inside the chunks. -/
module

public import proofs.«01_k».proof.Proof.KernelRead
public import proofs.«01_k».proof.Proof.Numbers

@[expose] public section

set_option maxRecDepth 16384

noncomputable section

namespace Cert.KernelIdeal.Block

open Idealize.ShloMosaic Cert.KernelIdeal Cert.KernelIdeal.Gen Cert.Prefix Cert.Spec Cert.Numbers
open scoped Classical

variable {a : ℕ → ℕ} (ha : ∀ j, a j ≤ 7) {v2 : Vec Ideal S1x1x256 .i32} {v5 : Vec Ideal S256x256 .f32}
  (h2 : ∀ k : Fin 256, v2 (ix3 0 0 k) = BitVec.ofNat 32 (a k.val))
  (h5 : ∀ k e : Fin 256, v5 (ix2 k e) = if k.val ≤ e.val then (1 : EReal) else 0)

include ha

theorem pre_small {k : ℕ} (hk : k ≤ 256) : pre a k ≤ 1792 := by
  have := pre_le ha k; omega

include h2 h5

/-- The ends' row: the prefix sums of the first 256 chunks, then zeros. -/
theorem ends_at (e : Fin 384) :
    k0_pay3 v2 v5 (ix2 0 e) = BitVec.ofNat 32 (if e.val < 256 then pre a (e.val + 1) else 0) := by
  rw [ends_read]
  by_cases h : e.val < 256
  · rw [dif_pos h, if_pos h, ← fptosi_nat _ (by have := pre_small ha (k := e.val + 1) (by omega); omega),
      ← sum_triangle a e.val h]
    congr 1
    refine Finset.sum_congr rfl fun x _ => ?_
    rw [h2 x, sitofp_nat _ (by have := ha x.val; omega), h5 x ⟨e.val, h⟩]
  · rw [dif_neg h, if_neg h]

/-- The boundary mask is zero at the chunk starts and at the end of the last chunk, one elsewhere. -/
theorem mask_at (s : Fin 2048) :
    k0_pay4 v2 v5 (ix2 s 0) = if Start a 256 s.val then (0 : EReal) else 1 := by
  rw [mask_read]
  have hp : ∀ x : Fin 384, (FloatOps.sitofp (F := Ideal) FTy.f32 (BitVec.setWidth 32
        (IntOp.cmpi .eq (k0_pay3 v2 v5 (ix2 0 x)) (BitVec.ofNat 32 s.val))) : EReal)
      = if (if x.val < 256 then pre a (x.val + 1) else 0) = s.val then (1 : EReal) else 0 := by
    intro x
    have hs : (if x.val < 256 then pre a (x.val + 1) else 0) < 2 ^ 32 := by
      split
      · have := pre_small ha (k := x.val + 1) (by omega); omega
      · omega
    rw [ends_at ha h2 h5, WordCmp.cmpi_eq_ofNat hs (by omega)]
    exact sitofp_bit _
  simp only [hp]
  rw [fold_max_bit (fun x : Fin 384 => (if x.val < 256 then pre a (x.val + 1) else 0) = s.val)]
  have hiff : (∃ x : Fin 384, (if x.val < 256 then pre a (x.val + 1) else 0) = s.val) ↔ Start a 256 s.val := by
    rw [start_iff_end]
    constructor
    · rintro ⟨x, hx⟩
      by_cases h : x.val < 256
      · exact .inr ⟨x.val, h, by rwa [if_pos h] at hx⟩
      · rw [if_neg h] at hx; exact .inl hx.symm
    · rintro (h | ⟨e, he, h⟩)
      · exact ⟨⟨256, by omega⟩, by simp [h]⟩
      · exact ⟨⟨e, by omega⟩, by simp [he, h]⟩
  by_cases h : Start a 256 s.val
  · rw [if_pos (hiff.mpr h), if_pos h, one_sub_one]
  · rw [if_neg (fun h' => h (hiff.mp h')), if_neg h, sub_zero]

/-- The total is the sum of all the lengths. -/
theorem total_at : extractAt ![0, 0, 0] (k0_pay5 v2 v5) inpos_S1x1x1_p0_0_0 = BitVec.ofNat 32 (pre a 256) := by
  rw [total_read]
  simp only [ends_at ha h2 h5]
  refine fold_maxsi_nat (fun x : Fin 1 × Fin 384 => if x.2.val < 256 then pre a (x.2.val + 1) else 0) (pre a 256)
    (by have := pre_small ha (k := 256) le_rfl; omega) (fun x => ?_) (0, ⟨255, by omega⟩) (by simp)
  split
  · exact pre_mono (by omega)
  · omega

/-- The block's stored value at position `s`, channel `o`: the convolution of the block's features. -/
theorem block_at (v0 : Vec Ideal S1x2048x128 .f32) (w0 w1 w2 : Vec Ideal S1x128x128 .f32) (v46 : Vec Ideal S1x128 .f32)
    {X : ℕ → Fin 128 → EReal} (hX : ∀ (n : Fin 2048) d, v0 (ix3 0 n d) = X n.val d)
    {W0 W1 W2 : Fin 128 → Fin 128 → EReal} {β : Fin 128 → EReal} (hw0 : ∀ d o, w0 (ix3 0 d o) = W0 d o)
    (hw1 : ∀ d o, w1 (ix3 0 d o) = W1 d o) (hw2 : ∀ d o, w2 (ix3 0 d o) = W2 d o) (hβ : ∀ o, v46 (ix2 0 o) = β o)
    (s : Fin 2048) (o : Fin 128) :
    k0_pay1 (k0_pay2 v0) (extractAt ![0, 0, 0] (k0_pay5 v2 v5) inpos_S1x1x1_p0_0_0) (k0_pay6 v0 v2 v5)
        (k0_pay7 v0 v2 v5 w0) w1 w2 v46 (ix3 0 s o)
      = conv a X W0 W1 W2 β s.val o := by
  have hT := pre_small ha (k := 256) le_rfl
  rw [out_read, total_at ha h2 h5, WordCmp.cmpi_slt_ofNat (by omega) (by omega), WordCmp.select_ofBool, conv]
  by_cases hs : s.val < pre a 256
  · rw [if_pos (by simpa using hs), if_pos hs, left_read, hβ]
    congr 1; congr 1; congr 1; congr 1
    · refine Finset.sum_congr rfl fun d _ => ?_
      rw [hw0]; congr 1
      rw [mask_at ha h2 h5, left]
      by_cases hst : Start a 256 s.val
      · rw [if_pos hst, if_pos hst, mul_zero]
      · rw [if_neg hst, if_neg hst, mul_one]
        have h0 : ¬ s.val < 1 := fun h => hst (start_iff_end.mpr (.inl (by omega)))
        rw [dif_neg h0, hX]
    · refine Finset.sum_congr rfl fun d _ => ?_
      rw [hX, hw1]
    · refine Finset.sum_congr rfl fun d _ => ?_
      rw [hw2]; congr 1
      rw [right_read v0 v2 v5 s d (by omega), mask_at ha h2 h5, hX, right]
      simp only [Nat.add_comm 1 s.val]
      by_cases hst : Start a 256 (s.val + 1)
      · rw [if_pos hst, if_pos hst, mul_zero]
      · rw [if_neg hst, if_neg hst, mul_one]
  · rw [if_neg (by simpa using hs), if_neg hs]

end Cert.KernelIdeal.Block
-- ==== Proof.KernelHost.lean ====
/- The arrays the kernel's launch finds: the lengths and the bias reshaped, the weights with their axes in the
   opposite order, and the triangle of ones. -/
module

public import proofs.«01_k».proof.Proof.Gen.KernelIdeal.Value
public import proofs.«01_k».proof.Proof.Numbers
public import Idealize.ShloMosaic.Lib.Pipeline.ValueKit
public import Idealize.ShloMosaic.Lib.Claim

@[expose] public section

set_option maxRecDepth 16384

noncomputable section

namespace Cert.KernelIdeal.Block

open Idealize.ShloMosaic Idealize.ShloMosaic.TcCoe Idealize.SL.Sem Cert.KernelIdeal Cert.KernelIdeal.Gen

variable (m : (ℓ : Loc nD τ sig) → Buf (Elt Ideal) ℓ)

/-- The lengths' window reads the lengths under a new unit axis. -/
theorem V_lens (c : Dev nD) : V m c main_v0
    = (shapeCast S16x1x256 (show IVec S16x256 32 from m ((c : Thread nD τ).loc main_arg3)) shapeCasts_S16x256_S16x1x256 : IVec S16x1x256 32) := by
  simp only [V, hostOps0, hostOps0_1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

/-- The weights' window reads the weights with tap first, then input channel, then output channel. -/
theorem V_weights (c : Dev nD) : V m c main_v1
    = (transpose S3x128x128 [2, 1, 0] (show FVec Ideal S128x128x3 .f32 from m ((c : Thread nD τ).loc main_arg1)) transposes_S128x128x3_S3x128x128_2_1_0 : FVec Ideal S3x128x128 .f32) := by
  simp only [V, hostOps0, hostOps0_1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

/-- The bias's window reads the bias under a new unit axis. -/
theorem V_bias (c : Dev nD) : V m c main_v2
    = (shapeCast S1x128 (show FVec Ideal S128 .f32 from m ((c : Thread nD τ).loc main_arg2)) shapeCasts_S128_S1x128 : FVec Ideal S1x128 .f32) := by
  simp only [V, hostOps0, hostOps0_1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

/-- The triangle: zero where row minus one is at least the column, one elsewhere. -/
theorem V_tri (c : Dev nD) : V m c main_v4
    = (select (cmpi .sge (addi (iotaInDim S256x256 32 0) (broadcastInDim S256x256 ![] bcast_S_S256x256 (constantI S_ 32 4294967295#32))) (iotaInDim S256x256 32 1))
        (broadcastInDim S256x256 ![] bcast_S_S256x256 (constant S_ .f32 0x00000000#32))
        (broadcastInDim S256x256 ![] bcast_S_S256x256 (constant S_ .f32 0x3F800000#32)) : FVec Ideal S256x256 .f32) := by
  simp only [V, hostOps0, hostOps0_1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp <;> rfl

theorem V_lens_at (c : Dev nD) (b : Fin 16) (k : Fin 256) :
    V m c main_v0 (ix3 b 0 k) = m ((c : Thread nD τ).loc main_arg3) (ix2 b k) := by
  rw [V_lens]; pointwise

theorem V_weights_at (c : Dev nD) (k : Fin 3) (d o : Fin 128) :
    V m c main_v1 (ix3 k d o) = m ((c : Thread nD τ).loc main_arg1) (ix3 o d k) := by
  rw [V_weights]; pointwise

theorem V_bias_at (c : Dev nD) (o : Fin 128) :
    V m c main_v2 (ix2 0 o) = m ((c : Thread nD τ).loc main_arg2) (ix1 o) := by
  rw [V_bias]; pointwise

/-- One where the row is at most the column, zero elsewhere. -/
def triangle (k e : Fin 256) : EReal := if k.val ≤ e.val then 1 else 0

/-- A small number plus the word of minus one, read as a signed word. -/
theorem toInt_pred (k : ℕ) (hk : k < 256) : (IntOp.addi (BitVec.ofNat 32 k) 4294967295#32).toInt = (k : ℤ) - 1 := by
  cases k with
  | zero => rfl
  | succ k =>
    have e : IntOp.addi (BitVec.ofNat 32 (k + 1)) 4294967295#32 = BitVec.ofNat 32 k := by
      show BitVec.ofNat 32 (k + 1) + 4294967295#32 = BitVec.ofNat 32 k
      rw [BitVec.ofNat_add, BitVec.add_assoc, show (BitVec.ofNat 32 1 + 4294967295#32) = 0#32 from rfl, BitVec.add_zero]
    rw [e, StableHlo.Predicate.toInt_ofNat_small _ (by omega)]
    push_cast; omega

/-- The triangle's term at an index. -/
theorem tri_read (k e : Fin 256) :
    (select (cmpi .sge (addi (iotaInDim S256x256 32 0) (broadcastInDim S256x256 ![] bcast_S_S256x256 (constantI S_ 32 4294967295#32))) (iotaInDim S256x256 32 1))
        (broadcastInDim S256x256 ![] bcast_S_S256x256 (constant S_ .f32 0x00000000#32))
        (broadcastInDim S256x256 ![] bcast_S_S256x256 (constant S_ .f32 0x3F800000#32)) : FVec Ideal S256x256 .f32) (ix2 k e)
      = triangle k e := by
  pointwise
  rw [WordCmp.cmpi_sge_eq, toInt_pred k.val (by omega), StableHlo.Predicate.toInt_ofNat_small _ (by omega), WordCmp.select_ofBool, triangle]
  by_cases hk : k.val ≤ e.val
  · rw [if_pos hk, if_neg (by simp; omega)]
  · rw [if_neg hk, if_pos (by simp; omega)]

/-- The triangle holds one where the row is at most the column. -/
theorem V_tri_at (c : Dev nD) (k e : Fin 256) : V m c main_v4 (ix2 k e) = triangle k e := by
  rw [V_tri]; exact tri_read k e

end Cert.KernelIdeal.Block
-- ==== Proof.Target.lean ====
/- The array both programs return, as a function of the four argument arrays. -/
module

public import proofs.«01_k».proof.Proof.Spec
public import proofs.«01_k».proof.KernelIdeal
public import Idealize.ShloMosaic.Lib.Pointwise

@[expose] public section

set_option maxRecDepth 16384

noncomputable section

namespace Cert.Target

open Idealize.ShloMosaic Cert.KernelIdeal Cert.Prefix Cert.Spec

/-- The chunk lengths of batch row `b`, none after the last chunk. -/
def len (cl : IVec S16x256 32) (b : Fin 16) (j : ℕ) : ℕ := if h : j < 256 then (cl (ix2 b ⟨j, h⟩)).toNat else 0

/-- The features of batch row `b`, zero past the last position. -/
def feat (x : FVec Ideal S16x2048x128 .f32) (b : Fin 16) (n : ℕ) (d : Fin 128) : EReal :=
  if h : n < 2048 then x (ix3 b ⟨n, h⟩ d) else 0

/-- The weights of tap `k`, from input channel `d` to output channel `o`. -/
def tap (W : FVec Ideal S128x128x3 .f32) (k : Fin 3) (d o : Fin 128) : EReal := W (ix3 o d k)

/-- The returned array: at batch row `b`, position `s`, channel `o` the convolution of row `b` there. -/
def result (x : FVec Ideal S16x2048x128 .f32) (W : FVec Ideal S128x128x3 .f32) (β : FVec Ideal S128 .f32)
    (cl : IVec S16x256 32) : FVec Ideal S16x2048x128 .f32 := fun i =>
  conv (len cl (i 0)) (feat x (i 0)) (tap W 0) (tap W 1) (tap W 2) (fun o => β (ix1 o)) (i 1).val (i 2)

/-- Every length is a word from 0 to 7. -/
def Lens (cl : IVec S16x256 32) : Prop := ∀ b k, (cl (ix2 b k)).toNat ≤ 7

theorem len_le {cl : IVec S16x256 32} (h : Lens cl) (b : Fin 16) (j : ℕ) : len cl b j ≤ 7 := by
  unfold len; split
  · exact h _ _
  · omega

/-- The length of chunk `k` as a word. -/
theorem len_word (cl : IVec S16x256 32) (b : Fin 16) (k : Fin 256) : cl (ix2 b k) = BitVec.ofNat 32 (len cl b k.val) := by
  rw [len, dif_pos k.isLt]; simp

end Cert.Target
-- ==== Proof.KernelValue.lean ====
/- The kernel's result array after the run: every batch row's convolution. -/
module

public import proofs.«01_k».proof.Proof.KernelBlock
public import proofs.«01_k».proof.Proof.KernelHost
public import proofs.«01_k».proof.Proof.Target

@[expose] public section

set_option maxRecDepth 16384

noncomputable section

namespace Cert.KernelIdeal.Block

open Idealize.ShloMosaic Idealize.ShloMosaic.TcCoe Idealize.SL.Sem Cert.KernelIdeal Cert.KernelIdeal.Gen Cert.Prefix Cert.Spec Cert.Target
open Idealize.ShloMosaic.Pipeline (Dat)

variable (m : (ℓ : Loc nD τ sig) → Buf (Elt Ideal) ℓ)

/-- Where each window's block stands at grid point `t`: the batch row `t`, or the whole array. -/
theorem idx : ∀ t : Fin cfg0.N, win0_0.index t = ![t.val, 0, 0] ∧ win0_1.index t = ![t.val, 0, 0]
    ∧ win0_2.index t = ![0, 0, 0] ∧ win0_3.index t = ![0, 0] ∧ win0_4.index t = ![0, 0] ∧ win0_5.index t = ![t.val, 0, 0] :=
  (by decide +kernel : ∀ t : Fin grid0.N, _)

/-- The batch row of grid point `t`. -/
def row (t : Fin cfg0.N) : Fin 16 := ⟨t.val, (by decide +kernel : ∀ t : Fin grid0.N, t.val < 16) t⟩

theorem row_val (t : Fin cfg0.N) : (row t).val = t.val := rfl

theorem lens_block (c : Dev nD) (t : Fin cfg0.N) (k : Fin 256) :
    iblk m c 0 t (ix3 0 0 k) = m ((c : Thread nD τ).loc main_arg3) (ix2 (row t) k) := by
  refine Eq.trans ?_ (V_lens_at m c (row t) k)
  blk_point [iblk, idx t, row_val]

theorem feat_block (c : Dev nD) (t : Fin cfg0.N) (s : Fin 2048) (d : Fin 128) :
    iblk m c 1 t (ix3 0 s d) = m ((c : Thread nD τ).loc main_arg0) (ix3 (row t) s d) := by
  refine Eq.trans ?_ (congrFun (V_main_arg0 m c) _)
  blk_point [iblk, idx t, row_val]

theorem weight_block (c : Dev nD) (t : Fin cfg0.N) (k : Fin 3) (d o : Fin 128) :
    iblk m c 2 t (ix3 k d o) = m ((c : Thread nD τ).loc main_arg1) (ix3 o d k) := by
  refine Eq.trans ?_ (V_weights_at m c k d o)
  blk_point [iblk, idx t]

theorem bias_block (c : Dev nD) (t : Fin cfg0.N) (o : Fin 128) :
    iblk m c 3 t (ix2 0 o) = m ((c : Thread nD τ).loc main_arg2) (ix1 o) := by
  refine Eq.trans ?_ (V_bias_at m c o)
  blk_point [iblk, idx t]

/-- The last input's block is the whole of whatever array stands behind it. -/
theorem whole_read (A : FVec Ideal S256x256 .f32) (t : Fin cfg0.N) (i : S256x256.Idx) :
    ((cfg0.win 4).blk t).view.read (Elt Ideal) A i = A i := by
  blk_ext [idx t]

theorem tri_block (c : Dev nD) (t : Fin cfg0.N) (k e : Fin 256) : iblk m c 4 t (ix2 k e) = triangle k e :=
  (whole_read (V m c main_v4) t (ix2 k e)).trans (V_tri_at m c k e)

/-- The body's loads of the weights: one tap each. -/
theorem load0 (A : Vec Ideal S3x128x128 .f32) (d o : Fin 128) : View.ld A r0_3 (ix3 0 d o) = A (ix3 0 d o) := by
  pointwise
theorem load1 (A : Vec Ideal S3x128x128 .f32) (d o : Fin 128) : View.ld A r0_4 (ix3 0 d o) = A (ix3 1 d o) := by
  pointwise
theorem load2 (A : Vec Ideal S3x128x128 .f32) (d o : Fin 128) : View.ld A r0_5 (ix3 0 d o) = A (ix3 2 d o) := by
  pointwise

/-- What grid point `t` stores at position `s`, channel `o` of its block. -/
theorem stored (c : Dev nD) (hl : Lens (m ((c : Thread nD τ).loc main_arg3))) (t : Fin cfg0.N) (s : Fin 2048) (o : Fin 128) :
    k0_pay1 (k0_pay2 (iblk m c 1 t)) (extractAt ![0, 0, 0] (k0_pay5 (iblk m c 0 t) (iblk m c 4 t)) inpos_S1x1x1_p0_0_0)
      (k0_pay6 (iblk m c 1 t) (iblk m c 0 t) (iblk m c 4 t))
      (k0_pay7 (iblk m c 1 t) (iblk m c 0 t) (iblk m c 4 t) (View.ld (iblk m c 2 t) r0_3)) (View.ld (iblk m c 2 t) r0_4)
      (View.ld (iblk m c 2 t) r0_5) (iblk m c 3 t) (ix3 0 s o)
      = result (m ((c : Thread nD τ).loc main_arg0)) (m ((c : Thread nD τ).loc main_arg1)) (m ((c : Thread nD τ).loc main_arg2))
          (m ((c : Thread nD τ).loc main_arg3)) (ix3 (row t) s o) := by
  refine block_at (len_le hl (row t)) (fun k => (lens_block m c t k).trans (len_word _ _ k)) (fun k e => tri_block m c t k e)
    _ _ _ _ _ (X := feat (m ((c : Thread nD τ).loc main_arg0)) (row t)) (fun n d => ?_)
    (fun d o => (load0 _ d o).trans (weight_block m c t 0 d o)) (fun d o => (load1 _ d o).trans (weight_block m c t 1 d o))
    (fun d o => (load2 _ d o).trans (weight_block m c t 2 d o)) (fun o => bias_block m c t o) s o
  rw [feat_block, feat, dif_pos n.isLt]

/-- After the run the kernel's result array is every row's convolution. -/
theorem final (c : Dev nD) (hl : Lens (m ((c : Thread nD τ).loc main_arg3))) : (dats m 0 c).arrAt 5 (cfgs 0).N
    = result (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  have hy : y = (ix3 0 (y 1) (y 2) : S1x2048x128.Idx) := by blk_ext
  have hz : ((View.whole main_v5).slice (win0_5.rect t)).emb y = (ix3 (row t) (y 1) (y 2) : S16x2048x128.Idx) := by
    blk_ext [idx t, row_val]
  rw [hz]
  refine Eq.trans ?_ (stored m c hl t (y 1) (y 2))
  exact congrArg _ hy

end Cert.KernelIdeal.Block
-- ==== Proof.RefTerms.lean ====
/- The reference's composed term, its intermediate arrays named: positions, indices, mask, gathered features,
   padded features, activations. -/
module

public import proofs.«01_k».proof.Proof.Gen.ReferenceIdeal.Run
public import proofs.«01_k».proof.Defs

@[expose] public section

set_option maxRecDepth 16384

noncomputable section

namespace Cert.ReferenceIdeal.Named

open Idealize.ShloMosaic Idealize.ShloMosaic.TcCoe Idealize.SL.Sem Cert.ReferenceIdeal Cert.ReferenceIdeal.Gen Cert.ReferenceIdeal.Value

variable (x : FVec Ideal S16x2048x128 .f32) (W : FVec Ideal S128x128x3 .f32) (β : FVec Ideal S128 .f32) (cl : IVec S16x256 32)

/-- The running totals of the lengths along each batch row. -/
def totals : IVec S16x256 32 :=
  Host.reduceWindow IntOp.addi ![1, 256] ![1, 1] ![0, 255] ![0, 0] cl (broadcastInDim S_ ![] bcast_S_S_ (constantI S_ 32 0#32))
    reduceWindows_S16x256_S16x256_w1s1p0_0_w256s1p255_0 h_S_

/-- Each chunk's first position: zero, then the running totals but the last. -/
def offsets : IVec S16x256 32 :=
  concatenate S16x256 1 [⟨S16x1, (broadcastInDim S16x1 ![] bcast_S_S16x1 (constantI S_ 32 0#32))⟩,
    ⟨S16x255, (extractStridedSlice S16x255 ![0, 0] (totals cl) slices_S16x256_S16x255_0_0)⟩] concatenates_S16x1_S16x255_S16x256_d1

/-- The position of each slot of each chunk, clipped into the row. -/
def positions : IVec S16x256x8 32 :=
  minsi (broadcastInDim S16x256x8 ![] bcast_S_S16x256x8 (id (constantI S_ 32 2047#32)))
    (maxsi (broadcastInDim S16x256x8 ![] bcast_S_S16x256x8 (id (constantI S_ 32 0#32)))
      (addi (broadcastInDim S16x256x8 ![0, 1, 2] bcast_S16x256x1_S16x256x8_0_1_2 (broadcastInDim S16x256x1 ![0, 1] bcast_S16x256_S16x256x1_0_1 (offsets cl)))
        (broadcastInDim S16x256x8 ![0, 1, 2] bcast_S1x1x8_S16x256x8_0_1_2 (broadcastInDim S1x1x8 ![2] bcast_S8_S1x1x8_2 (iotaInDim S8 32 0)))))

/-- The batch rows' numbers, wrapped as an index is. -/
def rows : IVec S16x1x1 32 :=
  select (cmpi .slt (broadcastInDim S16x1x1 ![0] bcast_S16_S16x1x1_0 (iotaInDim S16 32 0)) (broadcastInDim S16x1x1 ![] bcast_S_S16x1x1 (constantI S_ 32 0#32)))
    (addi (broadcastInDim S16x1x1 ![0] bcast_S16_S16x1x1_0 (iotaInDim S16 32 0)) (broadcastInDim S16x1x1 ![] bcast_S_S16x1x1 (constantI S_ 32 16#32)))
    (broadcastInDim S16x1x1 ![0] bcast_S16_S16x1x1_0 (iotaInDim S16 32 0))

/-- The positions, wrapped as an index is. -/
def wrapped : IVec S16x256x8 32 :=
  select (cmpi .slt (positions cl) (broadcastInDim S16x256x8 ![] bcast_S_S16x256x8 (constantI S_ 32 0#32)))
    (addi (positions cl) (broadcastInDim S16x256x8 ![] bcast_S_S16x256x8 (constantI S_ 32 2048#32))) (positions cl)

/-- The index pairs: batch row and position. -/
def pairs : IVec S16x256x8x2 32 :=
  concatenate S16x256x8x2 3 [⟨S16x256x8x1, (broadcastInDim S16x256x8x1 ![0, 1, 2] bcast_S16x256x8_S16x256x8x1_0_1_2
      (broadcastInDim S16x256x8 ![0, 1, 2] bcast_S16x1x1_S16x256x8_0_1_2 rows))⟩,
    ⟨S16x256x8x1, (broadcastInDim S16x256x8x1 ![0, 1, 2] bcast_S16x256x8_S16x256x8x1_0_1_2 (wrapped cl))⟩]
    concatenates_S16x256x8x1_S16x256x8x1_S16x256x8x2_d3

/-- One at the slots below their chunk's length, zero at the others. -/
def mask : FVec Ideal S16x256x8x128 .f32 :=
  broadcastInDim S16x256x8x128 ![0, 1, 2, 3] bcast_S16x256x8x1_S16x256x8x128_0_1_2_3 (uitofp .f32
    (broadcastInDim S16x256x8x1 ![0, 1, 2] bcast_S16x256x8_S16x256x8x1_0_1_2 (cmpi .slt
      (broadcastInDim S16x256x8 ![0, 1, 2] bcast_S1x1x8_S16x256x8_0_1_2 (broadcastInDim S1x1x8 ![2] bcast_S8_S1x1x8_2 (iotaInDim S8 32 0)))
      (broadcastInDim S16x256x8 ![0, 1, 2] bcast_S16x256x1_S16x256x8_0_1_2 (broadcastInDim S16x256x1 ![0, 1] bcast_S16x256_S16x256x1_0_1
        (minsi cl (broadcastInDim S16x256 ![] bcast_S_S16x256 (constantI S_ 32 8#32))))))))

/-- The features at the index pairs. -/
def gathered : FVec Ideal S16x256x8x128 .f32 :=
  Host.gather gather_S16x2048x128_S16x256x8x2_S16x256x8x128_3_01_n_n_01_3_11128 x (pairs cl)

/-- The masked features, one chunk per row, a zero slot before the first and after the last. -/
def padded : FVec Ideal S4096x10x128 .f32 :=
  pad S4096x10x128 ![0, 1, 0] ![0, 1, 0] ![0, 0, 0]
    (shapeCast S4096x8x128 (mulf (gathered x cl) (mask cl)) shapeCasts_S16x256x8x128_S4096x8x128)
    (sitofp .f32 (constantI S_ 32 0#32)) pads_S4096x8x128_S4096x10x128_000_110_000 h_S_

/-- One chunk per row: the three taps and the bias added, clamped at zero. -/
def act : FVec Ideal S4096x8x128 .f32 :=
  maximumf (addf (addf (addf
    (Host.dotGeneral dot_S4096x8x128_S128x128_S4096x8x128_2_1_01_0_n_n none (extractStridedSlice S4096x8x128 ![0, 0, 0] (padded x cl) slices_S4096x10x128_S4096x8x128_0_0_0)
      (shapeCast S128x128 (extractStridedSlice S128x128x1 ![0, 0, 0] W slices_S128x128x3_S128x128x1_0_0_0) shapeCasts_S128x128x1_S128x128))
    (Host.dotGeneral dot_S4096x8x128_S128x128_S4096x8x128_2_1_01_0_n_n none (extractStridedSlice S4096x8x128 ![0, 1, 0] (padded x cl) slices_S4096x10x128_S4096x8x128_0_1_0)
      (shapeCast S128x128 (extractStridedSlice S128x128x1 ![0, 0, 1] W slices_S128x128x3_S128x128x1_0_0_1) shapeCasts_S128x128x1_S128x128)))
    (Host.dotGeneral dot_S4096x8x128_S128x128_S4096x8x128_2_1_01_0_n_n none (extractStridedSlice S4096x8x128 ![0, 2, 0] (padded x cl) slices_S4096x10x128_S4096x8x128_0_2_0)
      (shapeCast S128x128 (extractStridedSlice S128x128x1 ![0, 0, 2] W slices_S128x128x3_S128x128x1_0_0_2) shapeCasts_S128x128x1_S128x128)))
    (broadcastInDim S4096x8x128 ![0, 1, 2] bcast_S1x1x128_S4096x8x128_0_1_2 (broadcastInDim S1x1x128 ![2] bcast_S128_S1x1x128_2 β)))
    (broadcastInDim S4096x8x128 ![] bcast_S_S4096x8x128 (constant S_ .f32 0x00000000#32))

/-- The updates: the activations, masked. -/
def updates : FVec Ideal S16x256x8x128 .f32 :=
  mulf (shapeCast S16x256x8x128 (act x W β cl) shapeCasts_S4096x8x128_S16x256x8x128) (mask cl)

/-- The reference's result: the updates added at their index pairs to an array of zeros. -/
def scattered : FVec Ideal S16x2048x128 .f32 :=
  Host.scatterAdd scatter_S16x2048x128_S16x256x8x2_S16x256x8x128_3_01_01_3
    (broadcastInDim S16x2048x128 ![] bcast_S_S16x2048x128 (constant S_ .f32 0x00000000#32)) (pairs cl) (updates x W β cl)

/-- The run's composed term is the named one at the argument arrays. -/
theorem res_named (m : (ℓ : Loc nD τ sig) → Buf (Elt Ideal) ℓ) (c : Dev nD) :
    res_out0 m c = scattered (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Named
-- ==== Proof.RefRead.lean ====
/- The reference's named arrays, each read at one index. -/
module

public import proofs.«01_k».proof.Proof.RefTerms
public import Idealize.ShloMosaic.Lib.Pointwise

@[expose] public section

set_option maxRecDepth 16384

noncomputable section

namespace Cert.ReferenceIdeal.Named

open Idealize.ShloMosaic Cert.ReferenceIdeal Cert.ReferenceIdeal.Gen

variable (x : FVec Ideal S16x2048x128 .f32) (W : FVec Ideal S128x128x3 .f32) (β : FVec Ideal S128 .f32) (cl : IVec S16x256 32)

/-- The offsets: zero at the first chunk, the running total before it at every other. -/
theorem offsets_read (b : Fin 16) (k : Fin 256) :
    offsets cl (ix2 b k) = if k.val < 1 then 0#32 else totals cl (ix2 b ⟨k.val - 1, by omega⟩) := by
  pointwise [offsets]
  rfl

/-- A position: the chunk's offset and the slot's number, clipped. -/
theorem positions_read (b : Fin 16) (k : Fin 256) (i : Fin 8) : positions cl (ix3 b k i) =
    IntOp.minsi 2047#32 (IntOp.maxsi 0#32 (IntOp.addi (offsets cl (ix2 b k)) (BitVec.ofNat 32 i.val))) := by
  pointwise [positions]
  rfl

/-- A batch row's number, wrapped. -/
theorem rows_read (b : Fin 16) : rows (ix3 b 0 0) = Scalar.select (IntOp.cmpi .slt (BitVec.ofNat 32 b.val) 0#32)
    (IntOp.addi (BitVec.ofNat 32 b.val) 16#32) (BitVec.ofNat 32 b.val) := by
  pointwise [rows]

/-- A position, wrapped. -/
theorem wrapped_read (b : Fin 16) (k : Fin 256) (i : Fin 8) : wrapped cl (ix3 b k i) =
    Scalar.select (IntOp.cmpi .slt (positions cl (ix3 b k i)) 0#32)
      (IntOp.addi (positions cl (ix3 b k i)) 2048#32) (positions cl (ix3 b k i)) := by
  pointwise [wrapped]

/-- An index pair's first word. -/
theorem pairs_read0 (b : Fin 16) (k : Fin 256) (i : Fin 8) : pairs cl (ix4 b k i 0) = rows (ix3 b 0 0) := by
  pointwise [pairs]

/-- An index pair's second word. -/
theorem pairs_read1 (b : Fin 16) (k : Fin 256) (i : Fin 8) : pairs cl (ix4 b k i 1) = wrapped cl (ix3 b k i) := by
  pointwise [pairs]

/-- The mask: the slot's number against the chunk's length, at most eight. -/
theorem mask_read (b : Fin 16) (k : Fin 256) (i : Fin 8) (o : Fin 128) : mask cl (ix4 b k i o) =
    (FloatOps.uitofp FTy.f32 (IntOp.cmpi .slt (BitVec.ofNat 32 i.val) (IntOp.minsi (cl (ix2 b k)) 8#32)) : Ideal .f32) := by
  pointwise [mask]

/-- The padded features: between the two zero slots the masked features, the chunk's row split into batch row and chunk. -/
theorem padded_read (r : Fin 4096) (i : Fin 10) (d : Fin 128) : padded x cl (ix3 r i d) =
    if h : 1 ≤ i.val ∧ i.val - 1 < 8 then
      (gathered x cl (ix4 (⟨r.val / 256, by omega⟩ : Fin 16) (⟨r.val % 256, by omega⟩ : Fin 256) (⟨i.val - 1, h.2⟩ : Fin 8) d) : EReal)
        * mask cl (ix4 (⟨r.val / 256, by omega⟩ : Fin 16) (⟨r.val % 256, by omega⟩ : Fin 256) (⟨i.val - 1, h.2⟩ : Fin 8) d)
    else (FloatOps.sitofp FTy.f32 0#32 : Ideal .f32) := by
  pointwise [padded]

/-- An activation: the taps over the slot, the one after and the one after that of the padded features. -/
theorem act_read (r : Fin 4096) (i : Fin 8) (o : Fin 128) : act x W β cl (ix3 r i o) =
    max (∑ d : Fin 128, (padded x cl (ix3 r (⟨i.val, by omega⟩ : Fin 10) d) : EReal) * W (ix3 o d 0)
      + ∑ d : Fin 128, (padded x cl (ix3 r (⟨1 + i.val, by omega⟩ : Fin 10) d) : EReal) * W (ix3 o d 1)
      + ∑ d : Fin 128, (padded x cl (ix3 r (⟨2 + i.val, by omega⟩ : Fin 10) d) : EReal) * W (ix3 o d 2) + β (ix1 o)) (0 : EReal) := by
  pointwise [act]

/-- An update: the activation of its chunk's row, masked. -/
theorem updates_read (b : Fin 16) (k : Fin 256) (i : Fin 8) (o : Fin 128) : updates x W β cl (ix4 b k i o) =
    (act x W β cl (ix3 (⟨b.val * 256 + k.val, by omega⟩ : Fin 4096) i o) : EReal) * mask cl (ix4 b k i o) := by
  pointwise [updates]

end Cert.ReferenceIdeal.Named
-- ==== Proof.RefIndex.lean ====
/- Where the reference's running sum, gather and scatter read and write, at their printed dimensions. -/
module

public import proofs.«01_k».proof.Proof.RefTerms
public import proofs.«01_k».proof.Proof.Prefix
public import Idealize.ShloMosaic.Lib.Routing.Ops
public import Idealize.ShloMosaic.Lib.Routing.OpsPair
public import Idealize.ShloMosaic.Lib.Pointwise

@[expose] public section

set_option maxRecDepth 16384

noncomputable section

namespace Cert.ReferenceIdeal.Named

open Idealize.ShloMosaic Cert.ReferenceIdeal Cert.ReferenceIdeal.Gen Cert.Prefix

/-- A prefix sum as a sum over a list. -/
theorem pre_eq_list (a : ℕ → ℕ) (k : ℕ) : ((List.range k).map a).sum = pre a k := by
  induction k with
  | zero => simp [pre_zero]
  | succ k ih => rw [pre_succ, ← ih, List.range_succ]; simp

/-- The index words of update `(b, k, i, o)`: the pair at `(b, k, i)`. -/
theorem scatter_word (j : Fin 2) (b : Fin 16) (k : Fin 256) (i : Fin 8) (o : Fin 128) (h) :
    scatter_S16x2048x128_S16x256x8x2_S16x256x8x128_3_01_01_3.siIdx (ix4 b k i o) ⟨j.val, h⟩ = ix4 b k i j := by
  funext a
  fin_cases a <;> fin_cases j <;> rfl

/-- Update `(b, k, i, o)` lands at `(b', s, o')` exactly when its two words, read signed, are `b'` and `s`, and `o = o'`. -/
theorem scatter_lands (idx : IVec S16x256x8x2 32) (b : Fin 16) (k : Fin 256) (i : Fin 8) (o : Fin 128)
    (b' : Fin 16) (s : Fin 2048) (o' : Fin 128) :
    scatter_S16x2048x128_S16x256x8x2_S16x256x8x128_3_01_01_3.resultIdx? (ix4 b k i o) idx = some (ix3 b' s o')
      ↔ (idx (ix4 b k i 0)).toInt = b'.val ∧ (idx (ix4 b k i 1)).toInt = s.val ∧ o = o' := by
  rw [Routing.resultIdx?_eq_some]
  have h0 : scatter_S16x2048x128_S16x256x8x2_S16x256x8x128_3_01_01_3.start (ix4 b k i o) idx 0 = (idx (ix4 b k i 0)).toInt := by
    unfold ScatterDims.start
    rw [dif_pos (by decide)]
    exact congrArg (fun q => (idx q).toInt) (scatter_word 0 b k i o _)
  have h1 : scatter_S16x2048x128_S16x256x8x2_S16x256x8x128_3_01_01_3.start (ix4 b k i o) idx 1 = (idx (ix4 b k i 1)).toInt := by
    unfold ScatterDims.start
    rw [dif_pos (by decide)]
    exact congrArg (fun q => (idx q).toInt) (scatter_word 1 b k i o _)
  have h2 : scatter_S16x2048x128_S16x256x8x2_S16x256x8x128_3_01_01_3.start (ix4 b k i o) idx 2 = 0 := rfl
  have w0 : scatter_S16x2048x128_S16x256x8x2_S16x256x8x128_3_01_01_3.window (ix4 b k i o) 0 = 0 := rfl
  have w1 : scatter_S16x2048x128_S16x256x8x2_S16x256x8x128_3_01_01_3.window (ix4 b k i o) 1 = 0 := rfl
  have w2 : scatter_S16x2048x128_S16x256x8x2_S16x256x8x128_3_01_01_3.window (ix4 b k i o) 2 = o.val := rfl
  constructor
  · intro h
    have q0 := h 0; have q1 := h 1; have q2 := h 2
    rw [h0, w0] at q0; rw [h1, w1] at q1; rw [h2, w2] at q2
    have q0' : (idx (ix4 b k i 0)).toInt + ((0 : ℕ) : ℤ) = (b'.val : ℤ) := q0
    have q1' : (idx (ix4 b k i 1)).toInt + ((0 : ℕ) : ℤ) = (s.val : ℤ) := q1
    have q2' : (0 : ℤ) + (o.val : ℤ) = (o'.val : ℤ) := q2
    exact ⟨by omega, by omega, Fin.ext (by omega)⟩
  · rintro ⟨q0, q1, rfl⟩ a
    match a with
    | ⟨0, _⟩ => exact (congrArg₂ (fun (p : ℤ) (q : ℕ) => p + (q : ℤ)) h0 w0).trans (by rw [q0]; exact add_zero _)
    | ⟨1, _⟩ => exact (congrArg₂ (fun (p : ℤ) (q : ℕ) => p + (q : ℤ)) h1 w1).trans (by rw [q1]; exact add_zero _)
    | ⟨2, _⟩ => exact (congrArg₂ (fun (p : ℤ) (q : ℕ) => p + (q : ℤ)) h2 w2).trans (zero_add _)

/-- The index words of the gather's element `(b, k, i, d)`: the pair at `(b, k, i)`. -/
theorem gather_word (j : Fin 2) (b : Fin 16) (k : Fin 256) (i : Fin 8) (d : Fin 128) (h) :
    gather_S16x2048x128_S16x256x8x2_S16x256x8x128_3_01_n_n_01_3_11128.siIdx (ix4 b k i d) ⟨j.val, h⟩ = ix4 b k i j := by
  funext a
  fin_cases a <;> fin_cases j <;> rfl

/-- The gather's element `(b, k, i, d)` is the operand's at the pair's words, when they are inside it. -/
theorem gather_reads (x : FVec Ideal S16x2048x128 .f32) (idx : IVec S16x256x8x2 32) (b : Fin 16) (k : Fin 256) (i : Fin 8) (d : Fin 128)
    (b' : Fin 16) (s : Fin 2048) (hb : (idx (ix4 b k i 0)).toInt = b'.val) (hs : (idx (ix4 b k i 1)).toInt = s.val) :
    Host.gather gather_S16x2048x128_S16x256x8x2_S16x256x8x128_3_01_n_n_01_3_11128 x idx (ix4 b k i d) = x (ix3 b' s d) := by
  show x _ = x _
  congr 1
  have h0 : gather_S16x2048x128_S16x256x8x2_S16x256x8x128_3_01_n_n_01_3_11128.start (ix4 b k i d) idx 0 = b'.val := by
    unfold GatherDims.start
    rw [dif_pos (by decide)]
    refine (congrArg (fun q => min (idx q).toInt.toNat _) (gather_word 0 b k i d _)).trans ?_
    rw [hb]
    show min b'.val (16 - 1) = b'.val
    omega
  have h1 : gather_S16x2048x128_S16x256x8x2_S16x256x8x128_3_01_n_n_01_3_11128.start (ix4 b k i d) idx 1 = s.val := by
    unfold GatherDims.start
    rw [dif_pos (by decide)]
    refine (congrArg (fun q => min (idx q).toInt.toNat _) (gather_word 1 b k i d _)).trans ?_
    rw [hs]
    show min s.val (2048 - 1) = s.val
    omega
  funext a
  apply Fin.ext
  match a with
  | ⟨0, _⟩ => exact h0
  | ⟨1, _⟩ => exact h1
  | ⟨2, _⟩ => exact zero_add _

/-- The running sum along the rows of a `[16, 256]` array of words: at `(b, k)` the word of the row's first `k + 1` numbers' sum. -/
theorem running_sum (y : IVec S16x256 32) (z : IVec S_ 32) (a : ℕ → ℕ) (b : Fin 16) (k : Fin 256)
    (hy : ∀ i : Fin 256, y (ix2 b i) = BitVec.ofNat 32 (a i.val)) (hz : ∀ q, z q = 0#32) :
    Host.reduceWindow IntOp.addi ![1, 256] ![1, 1] ![0, 255] ![0, 0] y z
      reduceWindows_S16x256_S16x256_w1s1p0_0_w256s1p255_0 h_S_ (ix2 b k) = BitVec.ofNat 32 (pre a (k.val + 1)) := by
  have hk := k.isLt
  have e0 : ∀ n, ((Routing.shape2 1 256).rowMajor.symm n 0).val = 0 := fun n => by rw [Routing.symm2]; rfl
  have e1 : ∀ n, ((Routing.shape2 1 256).rowMajor.symm n 1).val = n.val := fun n => by rw [Routing.symm2]; rfl
  have elt : ∀ n : Fin (Routing.shape2 1 256).numel, n.val < 256 := fun n => (n.cast (Routing.numel2 256)).isLt
  unfold Host.reduceWindow
  refine (Routing.foldl_addi_ofNat _ _ (fun n : Fin (Routing.shape2 1 256).numel =>
    if 255 ≤ k.val + n.val then a (k.val + n.val - 255) else 0) (fun n _ => ?_) _ 0 (hz _)).trans ?_
  · have hn := elt n
    dsimp only
    by_cases hle : 255 ≤ k.val + n.val
    · rw [if_pos hle]
      split
      · refine (congrArg y (funext fun ax => Fin.ext ?_)).trans (hy ⟨k.val + n.val - 255, by omega⟩)
        match ax with
        | ⟨0, _⟩ =>
          show b.val * 1 + ((Routing.shape2 1 256).rowMajor.symm n 0).val - 0 = b.val
          rw [e0]; omega
        | ⟨1, _⟩ =>
          show k.val * 1 + ((Routing.shape2 1 256).rowMajor.symm n 1).val - 255 = k.val + n.val - 255
          rw [e1]; omega
      · next hout =>
        refine absurd (fun ax => ?_) hout
        match ax with
        | ⟨0, _⟩ =>
          show 0 ≤ b.val * 1 + ((Routing.shape2 1 256).rowMajor.symm n 0).val ∧ b.val * 1 + ((Routing.shape2 1 256).rowMajor.symm n 0).val - 0 < 16
          rw [e0]; omega
        | ⟨1, _⟩ =>
          show 255 ≤ k.val * 1 + ((Routing.shape2 1 256).rowMajor.symm n 1).val ∧ k.val * 1 + ((Routing.shape2 1 256).rowMajor.symm n 1).val - 255 < 256
          rw [e1]; omega
    · rw [if_neg hle]
      split
      · next hin =>
        have h1 := hin 1
        change 255 ≤ k.val * 1 + ((Routing.shape2 1 256).rowMajor.symm n 1).val ∧ _ at h1
        rw [e1] at h1
        omega
      · exact hz _
  · rw [Nat.zero_add, Routing.map_finRange_val _ (fun w => if 255 ≤ k.val + w then a (k.val + w - 255) else 0)]
    have hM : (Routing.shape2 1 256).numel = 255 + 1 := Routing.numel2 256
    exact congrArg (BitVec.ofNat 32) ((congrArg (fun M => ((List.range M).map fun w =>
      if 255 ≤ k.val + w then a (k.val + w - 255) else 0).sum) hM).trans
      ((Routing.sum_window a 255 k.val (by omega)).trans (pre_eq_list a _)))

end Cert.ReferenceIdeal.Named
-- ==== Proof.RefWords.lean ====
/- The reference's words and masks where every length is from 0 to 7: positions, index pairs, gathered features. -/
module

public import proofs.«01_k».proof.Proof.RefRead
public import proofs.«01_k».proof.Proof.RefIndex
public import proofs.«01_k».proof.Proof.Target
public import proofs.«01_k».proof.Proof.Numbers
public import Idealize.ShloMosaic.Lib.Routing.OpsSearch
public import Idealize.ShloMosaic.Lib.WordCmp

@[expose] public section

set_option maxRecDepth 16384

noncomputable section

namespace Cert.ReferenceIdeal.Named

open Idealize.ShloMosaic Cert.ReferenceIdeal Cert.ReferenceIdeal.Gen Cert.Prefix Cert.Target

variable (x : FVec Ideal S16x2048x128 .f32) {cl : IVec S16x256 32} (hl : Lens cl)
include hl

/-- A slot's position lies inside the row. -/
theorem position_lt (b : Fin 16) (k : Fin 256) (i : Fin 8) : pre (len cl b) k.val + i.val < 2048 := by
  have := pre_le (len_le hl b) k.val
  omega

omit hl in
/-- The running total at chunk `k` is the word of the first `k + 1` lengths' sum. -/
theorem totals_at (b : Fin 16) (k : Fin 256) : totals cl (ix2 b k) = BitVec.ofNat 32 (pre (len cl b) (k.val + 1)) :=
  running_sum cl _ (len cl b) b k (fun i => len_word cl b i) (fun _ => rfl)

omit hl in
/-- The offset of chunk `k` is the word of the first `k` lengths' sum. -/
theorem offsets_at (b : Fin 16) (k : Fin 256) : offsets cl (ix2 b k) = BitVec.ofNat 32 (pre (len cl b) k.val) := by
  rw [offsets_read]
  split
  · next h => rw [show k.val = 0 by omega, pre_zero]
  · next h =>
    rw [totals_at]
    exact congrArg (fun n => BitVec.ofNat 32 (pre (len cl b) n)) (show k.val - 1 + 1 = k.val by omega)

/-- The position of slot `i` of chunk `k`: the chunk's start plus `i`; the clip changes nothing. -/
theorem positions_at (b : Fin 16) (k : Fin 256) (i : Fin 8) :
    positions cl (ix3 b k i) = BitVec.ofNat 32 (pre (len cl b) k.val + i.val) := by
  have hp := position_lt hl b k i
  rw [positions_read, offsets_at]
  have e : IntOp.addi (BitVec.ofNat 32 (pre (len cl b) k.val)) (BitVec.ofNat 32 i.val)
      = BitVec.ofNat 32 (pre (len cl b) k.val + i.val) := (BitVec.ofNat_add _ _).symm
  rw [e]
  refine (Routing.clip_word (x := pre (len cl b) k.val + i.val) (lo := 0) (hi := 2047) (by omega) (by norm_num) (by norm_num)).trans ?_
  congr 1
  omega

omit hl in
/-- A small word is not negative: its wrap is itself. -/
theorem wrap_nat (n : ℕ) (h : n < 2 ^ 31) (y : BitVec 32) :
    Scalar.select (IntOp.cmpi .slt (BitVec.ofNat 32 n) 0#32) y (BitVec.ofNat 32 n) = BitVec.ofNat 32 n := by
  refine Routing.wrap_of_lt _ _ ?_
  rw [BitVec.toNat_ofNat, Nat.mod_eq_of_lt (by omega)]
  exact h

omit hl in
/-- The pair's first word, read signed, is the batch row. -/
theorem pairs_at0 (b : Fin 16) (k : Fin 256) (i : Fin 8) : (pairs cl (ix4 b k i 0)).toInt = (b.val : ℤ) := by
  rw [pairs_read0, rows_read, wrap_nat _ (by omega)]
  exact StableHlo.Predicate.toInt_ofNat_small _ (by omega)

/-- The pair's second word, read signed, is the slot's position. -/
theorem pairs_at1 (b : Fin 16) (k : Fin 256) (i : Fin 8) :
    (pairs cl (ix4 b k i 1)).toInt = ((pre (len cl b) k.val + i.val : ℕ) : ℤ) := by
  have hp := position_lt hl b k i
  rw [pairs_read1, wrapped_read, positions_at hl, wrap_nat _ (by omega)]
  exact StableHlo.Predicate.toInt_ofNat_small _ (by omega)

/-- The gathered features are those at the slot's position. -/
theorem gathered_at (b : Fin 16) (k : Fin 256) (i : Fin 8) (d : Fin 128) :
    gathered x cl (ix4 b k i d) = feat x b (pre (len cl b) k.val + i.val) d := by
  have hp := position_lt hl b k i
  rw [feat, dif_pos hp]
  exact gather_reads x (pairs cl) b k i d b ⟨_, hp⟩ (pairs_at0 b k i) (pairs_at1 hl b k i)

/-- The mask is one exactly at the slots below the chunk's length. -/
theorem mask_at (b : Fin 16) (k : Fin 256) (i : Fin 8) (o : Fin 128) :
    (mask cl (ix4 b k i o) : EReal) = if i.val < len cl b k.val then 1 else 0 := by
  have h7 := len_le hl b k.val
  rw [mask_read, len_word cl b k]
  have e : IntOp.minsi (BitVec.ofNat 32 (len cl b k.val)) 8#32 = BitVec.ofNat 32 (len cl b k.val) := by
    unfold IntOp.minsi
    generalize len cl b k.val = n at h7
    interval_cases n <;> rfl
  rw [e, WordCmp.cmpi_slt_ofNat (by omega) (by omega)]
  exact Cert.Numbers.uitofp_bit _

/-- The padded features of chunk `k` of batch row `b`: slot `j + 1` holds the features at position `j` of the chunk if the
    chunk is longer than `j`, and zero otherwise; slots 0 and 9 hold zero. -/
theorem padded_at (b : Fin 16) (k : Fin 256) (r : Fin 4096) (hr : r.val = b.val * 256 + k.val) (i : Fin 10) (d : Fin 128) :
    (padded x cl (ix3 r i d) : EReal) =
      if 1 ≤ i.val ∧ i.val - 1 < len cl b k.val then feat x b (pre (len cl b) k.val + (i.val - 1)) d else 0 := by
  have h7 := len_le hl b k.val
  have hb : (⟨r.val / 256, by omega⟩ : Fin 16) = b := Fin.ext (show r.val / 256 = b.val by omega)
  have hk : (⟨r.val % 256, by omega⟩ : Fin 256) = k := Fin.ext (show r.val % 256 = k.val by omega)
  rw [padded_read, hb, hk]
  split
  · next h =>
    rw [gathered_at x hl, mask_at hl]
    by_cases hi : i.val - 1 < len cl b k.val
    · rw [if_pos hi, if_pos ⟨h.1, hi⟩, mul_one]
    · rw [if_neg hi, if_neg (fun q => hi q.2), mul_zero]
  · next h =>
    rw [if_neg (fun q => h ⟨q.1, by omega⟩)]
    exact (Cert.Numbers.sitofp_nat 0 (by norm_num)).trans (by simp)

end Cert.ReferenceIdeal.Named
-- ==== Proof.RefValue.lean ====
/- The reference's result is the specified array where every length is from 0 to 7. -/
module

public import proofs.«01_k».proof.Proof.RefWords

@[expose] public section

set_option maxRecDepth 16384

noncomputable section

namespace Cert.ReferenceIdeal.Named

open Idealize.ShloMosaic Cert.ReferenceIdeal Cert.ReferenceIdeal.Gen Cert.Prefix Cert.Target Cert.Spec
open scoped Classical

variable (x : FVec Ideal S16x2048x128 .f32) (W : FVec Ideal S128x128x3 .f32) (β : FVec Ideal S128 .f32)
variable {cl : IVec S16x256 32} (hl : Lens cl)
include hl

/-- An activation inside its chunk is the three taps and the bias at its position, clamped at zero; the neighbours are zero
    beyond the chunk's two ends. -/
theorem act_at (b : Fin 16) (k : Fin 256) (i : Fin 8) (o : Fin 128) (hi : i.val < len cl b k.val) :
    (act x W β cl (ix3 (⟨b.val * 256 + k.val, by omega⟩ : Fin 4096) i o) : EReal) =
      max (∑ d, left (len cl b) (feat x b) (pre (len cl b) k.val + i.val) d * tap W 0 d o
        + ∑ d, feat x b (pre (len cl b) k.val + i.val) d * tap W 1 d o
        + ∑ d, right (len cl b) (feat x b) (pre (len cl b) k.val + i.val) d * tap W 2 d o + β (ix1 o)) 0 := by
  have h7 := len_le hl b k.val
  have hs := pre_succ (a := len cl b) k.val
  have hlo : pre (len cl b) k.val ≤ pre (len cl b) k.val + i.val := by omega
  have hhi : pre (len cl b) k.val + i.val < pre (len cl b) (k.val + 1) := by omega
  have e0 : ∀ d : Fin 128, (padded x cl (ix3 (⟨b.val * 256 + k.val, by omega⟩ : Fin 4096) (⟨i.val, by omega⟩ : Fin 10) d) : EReal)
      = left (len cl b) (feat x b) (pre (len cl b) k.val + i.val) d := by
    intro d
    rw [padded_at x hl b k _ rfl, left]
    by_cases h : i.val = 0
    · rw [if_neg (fun q => by have := q.1; simp only at this; omega), if_pos ((start_iff k.isLt hlo hhi).2 (by omega))]
    · rw [if_pos (show 1 ≤ i.val ∧ i.val - 1 < _ by omega), if_neg (fun q => by have := (start_iff k.isLt hlo hhi).1 q; omega)]
      exact congrArg (fun n => feat x b n d) (show pre (len cl b) k.val + (i.val - 1) = pre (len cl b) k.val + i.val - 1 by omega)
  have e1 : ∀ d : Fin 128, (padded x cl (ix3 (⟨b.val * 256 + k.val, by omega⟩ : Fin 4096) (⟨1 + i.val, by omega⟩ : Fin 10) d) : EReal)
      = feat x b (pre (len cl b) k.val + i.val) d := by
    intro d
    rw [padded_at x hl b k _ rfl, if_pos (show 1 ≤ 1 + i.val ∧ 1 + i.val - 1 < _ by omega)]
    exact congrArg (fun n => feat x b n d) (show pre (len cl b) k.val + (1 + i.val - 1) = pre (len cl b) k.val + i.val by omega)
  have e2 : ∀ d : Fin 128, (padded x cl (ix3 (⟨b.val * 256 + k.val, by omega⟩ : Fin 4096) (⟨2 + i.val, by omega⟩ : Fin 10) d) : EReal)
      = right (len cl b) (feat x b) (pre (len cl b) k.val + i.val) d := by
    intro d
    rw [padded_at x hl b k _ rfl, right]
    by_cases h : i.val + 1 < len cl b k.val
    · rw [if_pos (show 1 ≤ 2 + i.val ∧ 2 + i.val - 1 < _ by omega),
        if_neg (fun q => by have := (start_succ_iff k.isLt hlo hhi).1 q; omega)]
      exact congrArg (fun n => feat x b n d) (show pre (len cl b) k.val + (2 + i.val - 1) = pre (len cl b) k.val + i.val + 1 by omega)
    · rw [if_neg (show ¬ (1 ≤ 2 + i.val ∧ 2 + i.val - 1 < _) by omega), if_pos ((start_succ_iff k.isLt hlo hhi).2 (by omega))]
  rw [act_read]
  simp only [e0, e1, e2]
  rfl

/-- An update past its chunk's length is zero. -/
theorem updates_past (b : Fin 16) (k : Fin 256) (i : Fin 8) (o : Fin 128) (hi : ¬ i.val < len cl b k.val) :
    (updates x W β cl (ix4 b k i o) : EReal) = 0 := by
  rw [updates_read, mask_at hl, if_neg hi, mul_zero]

/-- An update inside its chunk is the specified value at its position. -/
theorem updates_in (b : Fin 16) (k : Fin 256) (i : Fin 8) (o : Fin 128) (hi : i.val < len cl b k.val) :
    (updates x W β cl (ix4 b k i o) : EReal) =
      conv (len cl b) (feat x b) (tap W 0) (tap W 1) (tap W 2) (fun o => β (ix1 o)) (pre (len cl b) k.val + i.val) o := by
  have hs := pre_succ (a := len cl b) k.val
  have hm := pre_mono (a := len cl b) (show k.val + 1 ≤ 256 by omega)
  rw [updates_read, mask_at hl, if_pos hi, mul_one, act_at x W β hl b k i o hi, conv, if_pos (by omega)]

/-- The result at one position is the specified value. It is the sum of the updates that land there: the one of the slot that holds
    it and zeros, or only zeros past the chunks. -/
theorem scattered_at (b : Fin 16) (s : Fin 2048) (o : Fin 128) : (scattered x W β cl (ix3 b s o) : EReal) =
    conv (len cl b) (feat x b) (tap W 0) (tap W 1) (tap W 2) (fun o => β (ix1 o)) s.val o := by
  have h0 : (Ideal.ofBits FTy.f32 0x00000000#32 : EReal) = 0 := by simp [Ideal.ofBits, Ideal.ieee]
  have hsum : (scattered x W β cl (ix3 b s o) : EReal) = 0 + ∑ j ∈ Finset.univ.filter (fun j =>
      scatter_S16x2048x128_S16x256x8x2_S16x256x8x128_3_01_01_3.resultIdx? j (pairs cl) = some (ix3 b s o)),
        (updates x W β cl j : EReal) := by
    rw [← h0]
    exact congrArg (fun t : EReal => Ideal.ofBits FTy.f32 0x00000000#32 + t) (Finset.sum_congr (Finset.filter_congr_decidable _ _ _) fun _ _ => rfl)
  have land : ∀ (b' : Fin 16) (k : Fin 256) (i : Fin 8) (o' : Fin 128),
      scatter_S16x2048x128_S16x256x8x2_S16x256x8x128_3_01_01_3.resultIdx? (ix4 b' k i o') (pairs cl) = some (ix3 b s o)
        ↔ b' = b ∧ pre (len cl b') k.val + i.val = s.val ∧ o' = o := by
    intro b' k i o'
    rw [scatter_lands, pairs_at0, pairs_at1 hl]
    constructor
    · rintro ⟨p, q, r⟩; exact ⟨Fin.ext (by omega), by omega, r⟩
    · rintro ⟨rfl, q, r⟩; exact ⟨rfl, by omega, r⟩
  have eta : ∀ j : S16x256x8x128.Idx, j = ix4 (j 0) (j 1) (j 2) (j 3) := fun j => by
    funext a; match a with | ⟨0, _⟩ => rfl | ⟨1, _⟩ => rfl | ⟨2, _⟩ => rfl | ⟨3, _⟩ => rfl
  rw [hsum, zero_add]
  by_cases hlt : s.val < pre (len cl b) 256
  · obtain ⟨c, hc, hlo, hhi⟩ := exists_chunk hlt
    have hs := pre_succ (a := len cl b) c
    have h7 := len_le hl b c
    have hi : s.val - pre (len cl b) c < len cl b c := by omega
    have hval := updates_in x W β hl b ⟨c, hc⟩ ⟨s.val - pre (len cl b) c, by omega⟩ o hi
    rw [show pre (len cl b) c + (s.val - pre (len cl b) c) = s.val by omega] at hval
    rw [← hval]
    refine Finset.sum_eq_single_of_mem _ (Finset.mem_filter.2 ⟨Finset.mem_univ _, (land _ _ _ _).2
      ⟨rfl, show pre (len cl b) c + (s.val - pre (len cl b) c) = s.val by omega, rfl⟩⟩) ?_
    intro j hj hne
    have hj' := (Finset.mem_filter.1 hj).2
    obtain ⟨b', k, i, o', rfl⟩ : ∃ (b' : Fin 16) (k : Fin 256) (i : Fin 8) (o' : Fin 128), j = ix4 b' k i o' := ⟨_, _, _, _, eta j⟩
    obtain ⟨rfl, hp, rfl⟩ := (land _ _ _ _).1 hj'
    refine updates_past x W β hl b' k i o' fun hin => hne ?_
    have hk := pre_succ (a := len cl b') k.val
    obtain rfl : k = ⟨c, hc⟩ := Fin.ext (chunk_unique (a := len cl b') (s := s.val) (by omega) (by omega) hlo hhi)
    have hp' : pre (len cl b') c + i.val = s.val := hp
    exact congrArg (fun i => ix4 b' (⟨c, hc⟩ : Fin 256) i o') (Fin.ext (show i.val = s.val - pre (len cl b') c by omega))
  · rw [conv, if_neg hlt]
    refine Finset.sum_eq_zero fun j hj => ?_
    have hj' := (Finset.mem_filter.1 hj).2
    obtain ⟨b', k, i, o', rfl⟩ : ∃ (b' : Fin 16) (k : Fin 256) (i : Fin 8) (o' : Fin 128), j = ix4 b' k i o' := ⟨_, _, _, _, eta j⟩
    obtain ⟨rfl, hp, rfl⟩ := (land _ _ _ _).1 hj'
    refine updates_past x W β hl b' k i o' fun hin => hlt ?_
    have hk := pre_succ (a := len cl b') k.val
    have hm := pre_mono (a := len cl b') (show k.val + 1 ≤ 256 by omega)
    omega

/-- The reference's result is the specified array. -/
theorem scattered_eq : scattered x W β cl = result x W β cl := by
  funext j
  obtain ⟨b, s, o, rfl⟩ : ∃ (b : Fin 16) (s : Fin 2048) (o : Fin 128), j = ix3 b s o :=
    ⟨j 0, j 1, j 2, funext fun a => by match a with | ⟨0, _⟩ => rfl | ⟨1, _⟩ => rfl | ⟨2, _⟩ => rfl⟩
  exact scattered_at x W β hl b s o

end Cert.ReferenceIdeal.Named
-- ==== Proof.Pre.lean ====
/- What the precondition says of the lengths. -/
module

public import proofs.«01_k».proof.Proof.Target
public import proofs.«01_k».proof.Defs
public import Idealize.ShloMosaic.Lib.Pointwise
public import Idealize.ShloMosaic.Lib.WordCmp
public import Idealize.ShloMosaic.Lib.ReduceAll

@[expose] public section

noncomputable section

namespace Cert.Target

open Idealize.ShloMosaic Cert.KernelIdeal

/-- Where the precondition's bit is set, every length is from 0 to 7. -/
theorem lens_of_pre [Cert.Pre_lens.Facts] (x : FVec Ideal S16x2048x128 .f32) (W : FVec Ideal S128x128x3 .f32) (β : FVec Ideal S128 .f32) (cl : IVec S16x256 32)
    (h : Cert.Pre_lens.fn (F := Ideal) x W β cl = fun _ => 1#1) : Lens cl := by
  intro b k
  have h0 := congrFun h ix0
  unfold Cert.Pre_lens.fn at h0
  dsimp only at h0
  have h1 := Host.reduce_andi_all _ _ _ _ _ h0 (ix2 b k)
  have h2 : IntOp.andi (IntOp.cmpi .sge (cl (ix2 b k)) 0#32) (IntOp.cmpi .slt (cl (ix2 b k)) (BitVec.ofNat 32 8)) = 1#1 := h1
  rw [WordCmp.andi_sge_zero_slt_ofNat (by norm_num), WordCmp.ofBool_decide_eq_one_iff] at h2
  omega

end Cert.Target
-- ==== Proof.lean ====
/- The five claims about the span convolution, assembled: the generated frames of the kernel, the reference's run,
   and the two values, each of which is `Cert.Target.result` of the four arguments (KernelValue.lean and RefValue.lean). -/
module

public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.Pre
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_lens
public import Idealize.ShloMosaic.Adequacy
public import Idealize.ShloMosaic.Init

@[expose] public section

noncomputable section

namespace Cert.Proof

open Idealize.ShloMosaic Idealize.SL.Sem Cert.Kernel

/-- The reference declares no counter, so its run ends with every counter at zero and its arguments unchanged. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m g)

/-- Both programs return the specified array of the arguments. -/
theorem same_result : Cert.algebraic_KernelIdeal_ReferenceIdeal_pre_lens := by
  intro m g m' g' hpre hargs
  have hl := fun c => Cert.Target.lens_of_pre _ _ _ _ (hpre c)
  refine ⟨fun c => Cert.Target.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run _ _ _).mono (fun r h c => ⟨(h c).1.trans (Cert.KernelIdeal.Block.final m c (hl c)), (h c).2⟩)
      (Cert.KernelIdeal.Value.run_blocks m g)
  · refine (θ_run _ _ _).mono (fun r h c => ⟨(h c).1.trans ?_, (h c).2⟩) (Cert.ReferenceIdeal.Value.run m' g')
    obtain ⟨h0, h1, h2, h3⟩ := hargs c
    refine (Cert.ReferenceIdeal.Named.res_named m' c).trans ?_
    rw [h0, h1, h2, h3]
    exact Cert.ReferenceIdeal.Named.scattered_eq _ _ _ (hl c)

/-- The five claims: the three frames, the idealization, and the equality of the results. -/
theorem claim : Cert.Claim := ⟨Cert.Kernel.Gen.facts, Cert.KernelIdeal.Gen.facts, Cert.ReferenceIdeal.Gen.facts, Cert.Pre_lens.Gen.facts,
  fun m g _ => Cert.Kernel.Gen.frame m g, fun m g _ => Cert.KernelIdeal.Gen.frame m g, fun m g _ => Cert.KernelIdeal.Gen.frame m g,
  fun m g _ => reference_frame m g, fun m g _ => reference_frame m g, trivial, same_result⟩

end Cert.Proof

end
